-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_distinct_so_far [hKernelIdeal : Cert.KernelIdeal.Facts] [hReferenceIdeal : Cert.ReferenceIdeal.Facts] [hOn_distinct_so_far : Cert.On_distinct_so_far.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_distinct_so_far.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_distinct_so_far.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_distinct_so_far : Cert.On_distinct_so_far.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_distinct_so_far (hKernelIdeal := hKernelIdeal) (hReferenceIdeal := hReferenceIdeal) (hOn_distinct_so_far := hOn_distinct_so_far)
-- ==== On_distinct_so_far.lean ====
abbrev S256x2048 : Shape := ⟨2, ![256, 2048]⟩
abbrev S_ : Shape := ⟨0, ![]⟩
abbrev S256x1 : Shape := ⟨2, ![256, 1]⟩
abbrev S256x8 : Shape := ⟨2, ![256, 8]⟩

class Facts : Prop where
  bcast_S_S256x1 : S_.BroadcastsInDim S256x1 (![] : Fin 0 → Fin S256x1.rank)
  slices_S256x2048_S256x1_0_0 : S256x2048.Slices ![0, 0] S256x1
  slices_S256x2048_S256x1_0_1 : S256x2048.Slices ![0, 1] S256x1
  slices_S256x2048_S256x1_0_2 : S256x2048.Slices ![0, 2] S256x1
  slices_S256x2048_S256x1_0_3 : S256x2048.Slices ![0, 3] S256x1
  slices_S256x2048_S256x1_0_4 : S256x2048.Slices ![0, 4] S256x1
  slices_S256x2048_S256x1_0_5 : S256x2048.Slices ![0, 5] S256x1
  slices_S256x2048_S256x1_0_6 : S256x2048.Slices ![0, 6] S256x1
  slices_S256x2048_S256x1_0_7 : S256x2048.Slices ![0, 7] S256x1
  concatenates_S256x1_S256x1_S256x1_S256x1_S256x1_S256x1_S256x1_S256x1_S256x8_d1 : Shape.Concatenates [S256x1, S256x1, S256x1, S256x1, S256x1, S256x1, S256x1, S256x1] S256x8 1

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x2048 .f32) : FVec F S256x2048 .f32 :=
  let v0 : FVec F S256x2048 .f32 := (fun x => Host.sort S256x2048 1 comparator_f32_d1 x) arg0
  v0

def fn_part1 {F : FTy → Type} [FloatOps F] (main_v1 : FVec F S256x2048 .f32) (main_v2 : IVec S256x1 1) (main_v6 : IVec S256x1 1) (main_v10 : IVec S256x1 1) (main_v14 : IVec S256x1 1) (main_v18 : IVec S256x1 1) (main_v22 : IVec S256x1 1) : IVec S256x8 1 :=
  let main_v23 : FVec F S256x1 .f32 := (extractStridedSlice S256x1 ![0, 5] · slices_S256x2048_S256x1_0_5) main_v1
  let main_v24 : FVec F S256x1 .f32 := (extractStridedSlice S256x1 ![0, 6] · slices_S256x2048_S256x1_0_6) main_v1
  let main_v25 : IVec S256x1 1 := cmpf .olt main_v23 main_v24
  let main_v26 : IVec S256x1 1 := andi main_v22 main_v25
  let main_v27 : FVec F S256x1 .f32 := (extractStridedSlice S256x1 ![0, 6] · slices_S256x2048_S256x1_0_6) main_v1
  let main_v28 : FVec F S256x1 .f32 := (extractStridedSlice S256x1 ![0, 7] · slices_S256x2048_S256x1_0_7) main_v1
  let main_v29 : IVec S256x1 1 := cmpf .olt main_v27 main_v28
  let main_v30 : IVec S256x1 1 := andi main_v26 main_v29
  let main_v31 : IVec S256x8 1 := concatenate S256x8 1 [⟨S256x1, main_v2⟩, ⟨S256x1, main_v6⟩, ⟨S256x1, main_v10⟩, ⟨S256x1, main_v14⟩, ⟨S256x1, main_v18⟩, ⟨S256x1, main_v22⟩, ⟨S256x1, main_v26⟩, ⟨S256x1, main_v30⟩] concatenates_S256x1_S256x1_S256x1_S256x1_S256x1_S256x1_S256x1_S256x1_S256x8_d1
  main_v31

def fn {F : FTy → Type} [FloatOps F] (main_arg0 : FVec F S256x2048 .f32) : IVec S256x8 1 :=
  let main_v0 : FVec F S256x2048 .f32 := Host.negf main_arg0
  let main_v1 : FVec F S256x2048 .f32 := fn_sort (F := F) main_v0
  let main_c : IVec S_ 1 := constantI S_ 1 1#1
  let main_v2 : IVec S256x1 1 := broadcastInDim S256x1 ![] bcast_S_S256x1 main_c
  let main_v3 : FVec F S256x1 .f32 := (extractStridedSlice S256x1 ![0, 0] · slices_S256x2048_S256x1_0_0) main_v1
  let main_v4 : FVec F S256x1 .f32 := (extractStridedSlice S256x1 ![0, 1] · slices_S256x2048_S256x1_0_1) main_v1
  let main_v5 : IVec S256x1 1 := cmpf .olt main_v3 main_v4
  let main_v6 : IVec S256x1 1 := andi main_v2 main_v5
  let main_v7 : FVec F S256x1 .f32 := (extractStridedSlice S256x1 ![0, 1] · slices_S256x2048_S256x1_0_1) main_v1
  let main_v8 : FVec F S256x1 .f32 := (extractStridedSlice S256x1 ![0, 2] · slices_S256x2048_S256x1_0_2) main_v1
  let main_v9 : IVec S256x1 1 := cmpf .olt main_v7 main_v8
  let main_v10 : IVec S256x1 1 := andi main_v6 main_v9
  let main_v11 : FVec F S256x1 .f32 := (extractStridedSlice S256x1 ![0, 2] · slices_S256x2048_S256x1_0_2) main_v1
  let main_v12 : FVec F S256x1 .f32 := (extractStridedSlice S256x1 ![0, 3] · slices_S256x2048_S256x1_0_3) main_v1
  let main_v13 : IVec S256x1 1 := cmpf .olt main_v11 main_v12
  let main_v14 : IVec S256x1 1 := andi main_v10 main_v13
  let main_v15 : FVec F S256x1 .f32 := (extractStridedSlice S256x1 ![0, 3] · slices_S256x2048_S256x1_0_3) main_v1
  let main_v16 : FVec F S256x1 .f32 := (extractStridedSlice S256x1 ![0, 4] · slices_S256x2048_S256x1_0_4) main_v1
  let main_v17 : IVec S256x1 1 := cmpf .olt main_v15 main_v16
  let main_v18 : IVec S256x1 1 := andi main_v14 main_v17
  let main_v19 : FVec F S256x1 .f32 := (extractStridedSlice S256x1 ![0, 4] · slices_S256x2048_S256x1_0_4) main_v1
  let main_v20 : FVec F S256x1 .f32 := (extractStridedSlice S256x1 ![0, 5] · slices_S256x2048_S256x1_0_5) main_v1
  let main_v21 : IVec S256x1 1 := cmpf .olt main_v19 main_v20
  let main_v22 : IVec S256x1 1 := andi main_v18 main_v21
  fn_part1 (F := F) main_v1 main_v2 main_v6 main_v10 main_v14 main_v18 main_v22
-- ==== Kernel.lean ====
abbrev S256x1024 : Shape := ⟨2, ![256, 1024]⟩
abbrev S256x8 : Shape := ⟨2, ![256, 8]⟩
abbrev S2x256x8 : Shape := ⟨3, ![2, 256, 8]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S256x16 : Shape := ⟨2, ![256, 16]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S2x256x8, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v75 : BitVec 32 := Scalar.muli v9 c4_i32_29
  let v76 : BitVec 32 := Scalar.addi c0_i32_30 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v77 : BitVec 32 := Scalar.muli v5 c2_i32_31
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v79 : BitVec 32 := Scalar.muli v8 c1_i32_32
  let v80 : BitVec 32 := Scalar.addi v78 v79
  v80.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Slots.lean ====
/-
The two halves of the exchange buffer, and what the kernel computes on a device.

The kernel's scratch buffer holds two 256 × 8 tables one behind the other: the device writes its own table into the
first and its partner writes into the second. This file says which elements each half has, that the halves do not meet
and together are the whole buffer, and what is read through a half after it has been written. It also names the two
pure functions of the kernel: the table of a block (`tableOf`) and the result of two tables (`mergeOf`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Exec.Geometry
public import Idealize.ShloMosaic.Lib.Tactic

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a device computes -/

/-- The table a device makes of its block: eight rounds of taking each row's maximum and striking it out. -/
def tableOf (x : FVec F S256x1024 .f32) : FVec F S256x8 .bf16 :=
  k0_pay9 (k0_pay3 x) (k0_pay5 x) (k0_pay6 x) (k0_pay7 x) (k0_pay8 x) (Scalar.ofBits .f32 0xFF800000#32)

/-- The two tables side by side. -/
def bothOf (mine theirs : FVec F S256x8 .bf16) : FVec F S256x16 .bf16 :=
  concatenate S256x16 1 [⟨S256x8, mine⟩, ⟨S256x8, theirs⟩] concatenates_S256x8_S256x8_S256x16_d1

/-- The row maxima of the two tables side by side. -/
def peakOf (w : FVec F S256x16 .bf16) : FVec F S256x1 .bf16 :=
  shapeCast S256x1 (multiReduction .maximumf [1] S256 w 0xFF80#16 reduces_S256x16_S256 (.inr rfl) rfl) shapeCasts_S256_S256x1

/-- The result of a device: the same eight rounds on the two tables side by side. -/
def mergeOf (mine theirs : FVec F S256x8 .bf16) : FVec F S256x8 .f32 :=
  k0_pay1 (k0_pay15 (bothOf mine theirs) (peakOf (bothOf mine theirs))
    (cmpf .oeq (bothOf mine theirs) (broadcastTo S256x16 (peakOf (bothOf mine theirs)) broadcasts_S256x1_S256x16)) k0_pay14)

/-- The kernel's result written with the received table as it is loaded, a 1 × 256 × 8 array. -/
theorem mergeOf_loaded (mine : FVec F S256x8 .bf16) (v : Vec F S1x256x8 .bf16) :
    k0_pay1 (k0_pay15 (k0_pay11 mine v) (k0_pay12 mine v) (k0_pay13 mine v) (k0_pay14 (F := F)))
      = mergeOf mine (shapeCast S256x8 v shapeCasts_S1x256x8_S256x8) := rfl

/-! ## The two halves -/

abbrev xM : Memref sig .tc .vmem S256x1024 .f32 := Memref.whole cc0_stg0_0
abbrev oM : Memref sig .tc .vmem S256x8 .f32 := Memref.whole cc0_stg1_0
abbrev sM : Memref sig .tc .vmem S2x256x8 .bf16 := Memref.whole cc0_scratch0

abbrev box0 : Rect S2x256x8 := Rect.unit (s := S2x256x8) ![0, 0, 0] S1x256x8.size inb_S2x256x8_S1x256x8_0_0_0
abbrev box1 : Rect S2x256x8 := Rect.unit (s := S2x256x8) ![1, 0, 0] S1x256x8.size inb_S2x256x8_S1x256x8_1_0_0
/-- The first half, the device's own table; -/
abbrev own : Memref sig .tc .vmem S256x8 .bf16 := (sM.slice box0 (fun _ => rfl)).squeeze S256x8 squeezes_S1x256x8_S256x8
/-- the second half, where the partner's table lands. -/
abbrev land : Memref sig .tc .vmem S256x8 .bf16 := (sM.slice box1 (fun _ => rfl)).squeeze S256x8 squeezes_S1x256x8_S256x8

theorem own_set : own.view.set = box0.set := (Memref.set_view_squeeze _ _).trans (View.set_slice_whole _ _)
theorem land_set : land.view.set = box1.set := (Memref.set_view_squeeze _ _).trans (View.set_slice_whole _ _)

/-- The elements of the first half are those of first coordinate 0; -/
theorem mem_box0 (i : S2x256x8.Idx) : i ∈ box0.set ↔ (i 0).val = 0 := by
  refine Rect.mem_set_unit.trans ⟨fun h => ?_, fun h a => ?_⟩
  · have h0 : (i 0).val < 0 + 1 := (h 0).2
    omega
  · have h1 : (i 1).val < 256 := (i 1).isLt
    have h2 : (i 2).val < 8 := (i 2).isLt
    match a with
    | 0 => exact ⟨Nat.zero_le _, show (i 0).val < 0 + 1 by omega⟩
    | 1 => exact ⟨Nat.zero_le _, show (i 1).val < 0 + 256 by omega⟩
    | 2 => exact ⟨Nat.zero_le _, show (i 2).val < 0 + 8 by omega⟩

/-- of the second half, those of first coordinate 1. -/
theorem mem_box1 (i : S2x256x8.Idx) : i ∈ box1.set ↔ (i 0).val = 1 := by
  refine Rect.mem_set_unit.trans ⟨fun h => ?_, fun h a => ?_⟩
  · have h0 : (i 0).val < 1 + 1 := (h 0).2
    have h1 : 1 ≤ (i 0).val := (h 0).1
    omega
  · have h1 : (i 1).val < 256 := (i 1).isLt
    have h2 : (i 2).val < 8 := (i 2).isLt
    match a with
    | 0 => exact ⟨show 1 ≤ (i 0).val by omega, show (i 0).val < 1 + 1 by omega⟩
    | 1 => exact ⟨Nat.zero_le _, show (i 1).val < 0 + 256 by omega⟩
    | 2 => exact ⟨Nat.zero_le _, show (i 2).val < 0 + 8 by omega⟩

theorem boxes_disjoint : Disjoint box0.set box1.set := by
  rw [Finset.disjoint_left]
  intro i h0 h1
  have := (mem_box0 i).mp h0
  have := (mem_box1 i).mp h1
  omega

theorem boxes_cover : box0.set ∪ box1.set = Finset.univ := by
  refine Finset.eq_univ_iff_forall.mpr fun i => ?_
  have hi : (i 0).val < 2 := (i 0).isLt
  rcases Nat.lt_or_ge (i 0).val 1 with h | h
  · exact Finset.mem_union_left _ ((mem_box0 i).mpr (by omega))
  · exact Finset.mem_union_right _ ((mem_box1 i).mpr (by omega))

/-! ## Reads and writes through the halves -/

theorem load_own_subset : sM.view.setOn box0.toLoadRect.set ⊆ own.view.set := by
  rw [own_set]; show (box0.set).map (Function.Embedding.refl _) ⊆ box0.set
  rw [Finset.map_refl]
theorem load_land_subset : sM.view.setOn box1.toLoadRect.set ⊆ land.view.set := by
  rw [land_set]; show (box1.set).map (Function.Embedding.refl _) ⊆ box1.set
  rw [Finset.map_refl]
theorem store_own_subset : (sM.access box0 : View sig .tc _ _ _).setOn Finset.univ ⊆ own.view.set := by
  rw [View.setOn_univ, own_set]; exact (View.set_slice_whole cc0_scratch0 box0).le

/-- The own half after the store of a table reads that table. -/
theorem own_read_stored (f : sM.view.ty.Contents (Elt F)) (t : FVec F S256x8 .bf16) :
    own.view.read (Elt F) ((sM.access box0 : View sig .tc _ _ _).write (Elt F) f (shapeCast S1x256x8 t shapeCasts_S256x8_S1x256x8) Finset.univ) = t := by
  rw [show own.view.read (Elt F) ((sM.access box0 : View sig .tc _ _ _).write (Elt F) f (shapeCast S1x256x8 t shapeCasts_S256x8_S1x256x8) Finset.univ)
      = shapeCast S256x8 ((sM.access box0 : View sig .tc _ _ _).read (Elt F)
          ((sM.access box0 : View sig .tc _ _ _).write (Elt F) f (shapeCast S1x256x8 t shapeCasts_S256x8_S1x256x8) Finset.univ)) shapeCasts_S1x256x8_S256x8 from rfl,
    View.read_write_univ]
  exact shapeCast_shapeCast t _ _

/-- What a load of the second half gives, as a 256 × 8 table, is what the half reads. -/
theorem land_load (f : sM.view.ty.Contents (Elt F)) :
    shapeCast S256x8 (sM.view.readAt (Elt F) box1.toLoadRect f) shapeCasts_S1x256x8_S256x8 = land.view.read (Elt F) f := rfl

/-- The landing half of one device written with a table reads that table. -/
theorem land_read_written (f : land.view.ty.Contents (Elt F)) (t : FVec F S256x8 .bf16) :
    land.view.read (Elt F) (land.view.write (Elt F) f t Finset.univ) = t := View.read_write_univ _ _

theorem pair_zero : (![0, 0] : Fin 2 → Nat) = fun _ => 0 := funext fun a => by fin_cases a <;> rfl
/-- The block staged for the device is loaded as it is; -/
theorem load_x (f : (cc0_stg0_0 : Ref sig .tc).ty.Contents (Elt F)) :
    xM.view.readAt (Elt F) (Rect.unit (s := S256x1024) ![0, 0] S256x1024.size inb_S256x1024_S256x1024_0_0).toLoadRect f = f :=
  Memref.readAt_unit_zero (Elt F) cc0_stg0_0 pair_zero _ f
/-- the result is stored whole. -/
theorem store_o (f w : (cc0_stg1_0 : Ref sig .tc).ty.Contents (Elt F)) :
    (oM.access (Rect.unit (s := S256x8) ![0, 0] S256x8.size inb_S256x8_S256x8_0_0) : View sig .tc _ _ _).write (Elt F) f w Finset.univ = w :=
  Memref.write_access_unit_zero_univ (Elt F) cc0_stg1_0 pair_zero _ f w

end Cert.Swap

end
-- ==== Proof.Exchange.lean ====
/-
The exchange of the two tables, as a protocol.

Device `c`'s partner is the device with the other first mesh coordinate, `mate c`; partners are each other's. Each
device has three semaphore cells, used once each: its door (the runtime's barrier semaphore), its out cell and its in
cell (the two semaphores of the transfer).
  * the door is opened by the partner with one unit; with it the partner hands over the half of its own buffer in
    which it is ready to receive;
  * the out cell is credited when the device's own half has been read: it gets that half back;
  * the in cell is credited when the partner's table has landed: it gets the landing half back, reading that table.
A device owes its partner the door's unit and the table's credit. Doors are waited for before in cells, so no circle of
waiting can form.
-/
module

public import proofs.«01_k».proof.Proof.Slots

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's rounds, and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## Partners and cells -/

set_option backward.proofsInPublic true in
/-- The partner: four devices on, around the eight. -/
def mate (c : Dev nD) : Dev nD := ⟨(c.val + 4) % 8, Nat.mod_lt _ (by decide)⟩

theorem mate_mate (c : Dev nD) : mate (mate c) = c := by revert c; decide
theorem dev1_eq (c : Dev nD) : (⟨k0_dev1 c, k0_dev1_lt c⟩ : Dev nD) = mate c := by revert c; decide +kernel
theorem dev2_eq (c : Dev nD) : (⟨k0_dev2 c, k0_dev2_lt c⟩ : Dev nD) = mate c := by revert c; decide +kernel

/-- Exchanging partners, as a renumbering of the devices. -/
def mates : Dev nD ≃ Dev nD := ⟨mate, mate, mate_mate, mate_mate⟩

abbrev doorS : Sem sig := (SemArray.scalar (sig.barrier 0 rfl) : Sems sig S_).sem
abbrev outS : DmaSems sig S_ := cc0_scratch1
abbrev inS : DmaSems sig S_ := cc0_scratch2

/-- The three cells of a device: 0 its door, 1 its out cell, 2 its in cell; -/
abbrev site : Fin 3 → SemLoc sig := fun | 0 => .reg doorS | 1 => .dma outS.sem | 2 => .dma inS.sem
abbrev cell (c : Dev nD) (k : Fin 3) : GSem nD τ sig := ((c : Thread nD τ), site k)
/-- the last two are the kernel's own semaphores, the door is the runtime's. -/
abbrev ownSite : Fin 2 → SemLoc sig := fun | 0 => .dma outS.sem | 1 => .dma inS.sem

theorem site_injective : Function.Injective site := by decide
theorem cell_eq_iff {a b : Dev nD} {j k : Fin 3} : cell a j = cell b k ↔ a = b ∧ j = k :=
  ⟨fun h => ⟨congrArg (fun g : GSem nD τ sig => g.1.1) h, site_injective (congrArg Prod.snd h)⟩, fun ⟨h, h'⟩ => by rw [h, h']⟩

/-- The credit of one table. -/
abbrev N : ℕ := land.view.dmaCredit
theorem N_pos : 0 < N := View.dmaCredit_pos _ (by decide)
/-- What a cell's one duty is worth: a unit at the door, a table's credit at the other two. -/
abbrev worth (k : Fin 3) : ℕ := if k = 0 then 1 else N

/-! ## What is where -/

/-- The block staged for device `c`. -/
def blockIn (c : Dev nD) : (cc0_stg0_0 : Ref sig .tc).ty.Contents (Elt F) :=
  (win0_0.blk (0 : Fin 1)).view.read (Elt F) (m ((c : Thread nD τ).loc main_arg0))
/-- Its table, -/
def table (c : Dev nD) : FVec F S256x8 .bf16 := tableOf (blockIn m c)
/-- and its result. -/
def result (c : Dev nD) : (cc0_stg1_0 : Ref sig .tc).ty.Contents (Elt F) := mergeOf (table m c) (table m (mate c))

/-- Device `c`'s own half holding contents `f`; -/
def ownPts (c : Dev nD) (f : Buf (Elt F) (own.view.loc (c : Thread nD τ))) : sProp 𝕄 :=
  own.view.loc (c : Thread nD τ) ↦[own.view.set]{fullShare} f
/-- its landing half holding contents `f`. -/
def landPts (c : Dev nD) (f : Buf (Elt F) (land.view.loc (c : Thread nD τ))) : sProp 𝕄 :=
  land.view.loc (c : Thread nD τ) ↦[land.view.set]{fullShare} f

omit [FloatOps F] in
instance ownPts_storable (c : Dev nD) (f) : BI.Storable (upEmb : UEmb _ 𝕄) (ownPts (F := F) c f) := by unfold ownPts; infer_instance
omit [FloatOps F] in
instance landPts_storable (c : Dev nD) (f) : BI.Storable (upEmb : UEmb _ 𝕄) (landPts (F := F) c f) := by unfold landPts; infer_instance

omit [FloatOps F] in
/-- The whole buffer is its two halves. -/
theorem halves (c : Dev nD) (f : Buf (Elt F) ((c : Thread nD τ).loc cc0_scratch0)) :
    (((c : Thread nD τ).loc cc0_scratch0) ↦{fullShare} f : sProp 𝕄) ⊢ iprop(ownPts c f ∗ landPts c f) := by
  unfold ownPts landPts
  rw [own_set, land_set]
  show (((c : Thread nD τ).loc cc0_scratch0) ↦[Finset.univ]{fullShare} f : sProp 𝕄) ⊢ _
  rw [← boxes_cover]
  exact (pointsTo_union boxes_disjoint).1

omit [FloatOps F] in
/-- Two halves, whatever they hold, are a whole buffer holding something. -/
theorem rejoin (c : Dev nD) (f g : Buf (Elt F) ((c : Thread nD τ).loc cc0_scratch0)) :
    iprop(ownPts c f ∗ landPts c g) ⊢ iprop(∃ h : Buf (Elt F) ((c : Thread nD τ).loc cc0_scratch0), ((c : Thread nD τ).loc cc0_scratch0) ↦{fullShare} h : sProp 𝕄) := by
  unfold ownPts landPts
  rw [own_set, land_set]
  refine (pointsTo_join (ℓ := (c : Thread nD τ).loc cc0_scratch0) (f := f) (g := g) boxes_disjoint).trans ?_
  rw [boxes_cover]
  iintro H
  iexists _; iexact H

/-! ## The schedule -/

/-- What the one duty at device `c`'s cell `k` hands over. -/
def gift (c : Dev nD) : Fin 3 → sProp 𝕄
  | 0 => iprop((∃ f, landPts (mate c) f) ∗ reached EX (cell (mate c) 2) 0)
  | 1 => iprop(∃ f, ownPts c f)
  | 2 => iprop(∃ f, ⌜land.view.read (Elt F) f = table m (mate c)⌝ ∗ landPts c f)

instance gift_storable (c : Dev nD) (k : Fin 3) : BI.Storable (upEmb : UEmb _ 𝕄) (gift (F := F) m c k) := by
  match k with
  | 0 => unfold gift; infer_instance
  | 1 => unfold gift; infer_instance
  | 2 => unfold gift; infer_instance

/-- One round: every cell of every device has one duty in round 0. -/
def plan : Rounds.Schedule (GSem nD τ sig) Unit 𝕄 where
  duties g r := if r = 0 ∧ g.1.2 = .tc ∧ ∃ k, g.2 = site k then {()} else ∅
  unitless _ := False
  amount g _ _ := if g.2 = site 0 then 1 else N
  payload g _ _ :=
    if g.2 = site 0 then gift m g.1.1 0 else if g.2 = site 1 then gift m g.1.1 1 else if g.2 = site 2 then gift m g.1.1 2 else iprop(emp)
  amount_pos g _ _ _ := by
    by_cases h : g.2 = site 0
    · rw [if_pos h]; exact Nat.one_pos
    · rw [if_neg h]; exact N_pos

instance plan_payload_storable (g : GSem nD τ sig) (r : ℕ) (d : Unit) :
    BI.Storable (upEmb : UEmb _ 𝕄) ((plan (F := F) m).payload g r d) := by
  dsimp only [plan]
  (repeat' split) <;> infer_instance

theorem duties_cell (c : Dev nD) (k : Fin 3) : (plan (F := F) m).duties (cell c k) 0 = {()} := if_pos ⟨rfl, rfl, k, rfl⟩
theorem duty_mem (c : Dev nD) (k : Fin 3) : () ∈ (plan (F := F) m).duties (cell c k) 0 := by
  rw [duties_cell]; exact Finset.mem_singleton_self _
theorem duties_later (g : GSem nD τ sig) : ∀ r, 1 ≤ r → (plan (F := F) m).duties g r = ∅ :=
  fun r hr => if_neg fun h => by have := h.1; omega
theorem amount_cell (c : Dev nD) (k : Fin 3) : (plan (F := F) m).amount (cell c k) 0 () = worth k := by
  show (if site k = site 0 then 1 else N) = if k = 0 then 1 else N
  simp only [site_injective.eq_iff]
theorem expect_cell (c : Dev nD) (k : Fin 3) : (plan (F := F) m).expect (cell c k) 0 = worth k := by
  unfold Schedule.expect Schedule.amountOf; rw [duties_cell, Finset.sum_singleton, amount_cell]
theorem payload_cell (c : Dev nD) (k : Fin 3) : (plan (F := F) m).payload (cell c k) 0 () = gift m c k := by
  show (if site k = site 0 then gift m c 0 else if site k = site 1 then gift m c 1 else if site k = site 2 then gift m c 2 else iprop(emp)) = gift m c k
  simp only [site_injective.eq_iff]
  match k with
  | 0 => rfl
  | 1 => rfl
  | 2 => rfl
/-- Once a cell's duty has been paid, the waiter takes what it handed over. -/
theorem rest_cell (c : Dev nD) (k : Fin 3) :
    bigSep ((plan (F := F) m).duties (cell c k) 0 \ ∅) (fun d => (plan (F := F) m).payload (cell c k) 0 d) = gift m c k := by
  rw [Finset.sdiff_empty, duties_cell, bigSep_singleton, payload_cell]

/-! ## What is owed, and the order of waiting -/

/-- A device owes its partner a table's credit, and a unit at the door (paid first). -/
def debt (c : Dev nD) : CellTallies nD τ sig Unit := tallyAt (cell (mate c) 2) () N + tallyAt (cell (mate c) 0) () 1

def L (g : GSem nD τ sig) : Finset Unit := if g.1.2 = .tc then {()} else ∅
/-- Doors come before in cells, and everything else before both. -/
def lv (g : GSem nD τ sig) (_ : Unit) : ℕ := if g.2 = site 0 then 1 else if g.2 = site 2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_door (c : Dev nD) (u : Unit) : lv (cell c 0) u = 1 := rfl
theorem lv_in (c : Dev nD) (u : Unit) : lv (cell c 2) u = 2 := by
  show (if site 2 = site 0 then 1 else if site 2 = site 2 then 2 else 0) = 2
  rw [if_neg (by decide), if_pos rfl]

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem debt_pos {c : Dev nD} {g : GSem nD τ sig} {u : Unit} (h : 0 < debt c g u) : g = cell (mate c) 2 ∨ g = cell (mate c) 0 := by
  unfold debt at h
  rw [Pi.add_apply, Finsupp.add_apply] at h
  rcases Nat.add_pos_iff_pos_or_pos.mp h with h | h
  · exact Or.inl (tally_pos h)
  · exact Or.inr (tally_pos h)

omit [FloatOps F] in
/-- A staging semaphore may be waited for at any time: nothing owed is as early. -/
theorem wait_staging (c : Dev nD) (q : DmaSem sig) (hq : SemLoc.dma q ≠ .dma inS.sem) (O : CellTallies nD τ sig Unit) (hO : O = debt c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases debt_pos hg with rfl | rfl <;> exact mem_L _ _ _)
      (fun p hp => by
        rw [Finset.mem_singleton.mp hp]
        show (if SemLoc.dma q = .reg doorS then 1 else if SemLoc.dma q = .dma inS.sem then 2 else 0) ≤ 0
        rw [if_neg (fun h => by cases h), if_neg hq])
      (fun g u hg => by
        rcases debt_pos hg with rfl | rfl
        · rw [lv_in]; decide
        · rw [lv_door]; decide)
  · rw [MayWait_zero]; iintro -; iempintro

omit [FloatOps F] in
/-- At its door a device owes the partner's in cell only, which comes later. -/
theorem wait_door (c : Dev nD) : (levAts L lv : sProp 𝕄) ⊢ MayWait (c : Thread nD τ) (.reg doorS) () (tallyAt (cell (mate c) 2) () N) :=
  MayOwe.of_cut (L := L) (lev := lv) 1 (fun p hp => by rw [Finset.mem_singleton.mp hp]; exact mem_L _ _ _)
    (fun g u hg => by rw [tally_pos hg]; exact mem_L _ _ _)
    (fun p hp => by rw [Finset.mem_singleton.mp hp]; exact le_of_eq (lv_door c ()))
    (fun g u hg => by rw [tally_pos hg, lv_in]; decide)

end Cert.Swap

end
-- ==== Proof.Body.lean ====
/-
The kernel body on one device, effect by effect: it opens its partner's door (handing over its landing half), makes its
table and puts it into its own half, waits at its own door, sends the table across, waits for both ends of the transfer
and stores the merged result.
-/
module

public import proofs.«01_k».proof.Proof.Exchange
public import proofs.«01_k».proof.Proof.Gen.KernelIdeal.Points

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The invariants a device opens: of its own three cells, and of its partner's door and in cell. -/
def invs (K : Dev nD × Fin 3 → ℕ) (c : Dev nD) : sProp 𝕄 :=
  iprop(cellInv EX (plan m) (K (c, 0)) (cell c 0) ∗ cellInv EX (plan m) (K (c, 1)) (cell c 1) ∗ cellInv EX (plan m) (K (c, 2)) (cell c 2)
    ∗ cellInv EX (plan m) (K (mate c, 0)) (cell (mate c) 0) ∗ cellInv EX (plan m) (K (mate c, 2)) (cell (mate c) 2))

instance invs_persistent (K : Dev nD × Fin 3 → ℕ) (c : Dev nD) : BI.Persistent (invs m K c) := by unfold invs; infer_instance

/-- The cells a device pays into have reached round 0, and so has its own in cell (which its partner is told). -/
def marks (c : Dev nD) : sProp 𝕄 :=
  iprop(reached EX (cell (mate c) 0) 0 ∗ reached EX (cell (mate c) 2) 0 ∗ reached EX (cell c 1) 0 ∗ reached EX (cell c 2) 0)

instance marks_persistent (c : Dev nD) : BI.Persistent (marks (F := F) c) := by unfold marks; infer_instance

/-- The duties a device pays: its partner's door, its partner's in cell, its own out cell. -/
def dues (c : Dev nD) : sProp 𝕄 :=
  iprop(dutyTok EX (cell (mate c) 0) 0 () ∗ dutyTok EX (cell (mate c) 2) 0 () ∗ dutyTok EX (cell c 1) 0 ())
/-- A device's positions at its own cells. -/
def spots (c : Dev nD) : sProp 𝕄 :=
  iprop(atPos EX (cell c 0) 0 ∅ 0 ∗ atPos EX (cell c 1) 0 ∅ 0 ∗ atPos EX (cell c 2) 0 ∅ 0)

def ghost (K : Dev nD × Fin 3 → ℕ) (c : Dev nD) : sProp 𝕄 := iprop(invs m K c ∗ marks c ∗ spots c ∗ dues c)

/-- The credit a device waits with at its door and at its in cell. -/
def credits (c : Dev nD) : sProp 𝕄 := iprop(cred (tallyAt (cell c 0) () 1) ∗ cred (tallyAt (cell c 2) () N))

def start (c : Dev nD) : sProp 𝕄 := iprop((∃ K, ghost m K c) ∗ credits c ∗ levAts L lv)

/-- Before the body: all that, and the exchange buffer whole. -/
def Before (c : Dev nD) : sProp 𝕄 :=
  iprop(start m c ∗ ∃ f : Buf (Elt F) ((c : Thread nD τ).loc cc0_scratch0), ((c : Thread nD τ).loc cc0_scratch0) ↦{fullShare} f)
/-- After it: the buffer again, and the three cells' counters at zero. -/
def After (c : Dev nD) : sProp 𝕄 :=
  iprop((∃ f : Buf (Elt F) ((c : Thread nD τ).loc cc0_scratch0), ((c : Thread nD τ).loc cc0_scratch0) ↦{fullShare} f)
    ∗ semVal (cell c 1) 0 ∗ semVal (cell c 2) 0 ∗ semVal (cell c 0) 0)

/-- The pipeline's data: the block stays, the result buffer gets the merged table. -/
def dats (_ : Fin 1) (c : Dev nD) : Dat τ (Elt F) Unit ℕ UU ℕ cfg0 c where
  A w := m ((cfg0.win w).arr.view.loc (c : Thread nD τ))
  after w _ := match w with
    | ⟨0, _⟩ => blockIn m c
    | ⟨1, _⟩ => result m c
  Φ t := match t with
    | ⟨0, _⟩ => Before m c
    | ⟨_ + 1, _⟩ => After c
  q _ := fullShare
  owed t := match t with
    | ⟨0, _⟩ => debt c
    | ⟨_ + 1, _⟩ => 0

abbrev 𝒱₀ : Variants := Variants.none

abbrev tick : Fin cfg0.N := t0_0
theorem tick_eq (t : Fin cfg0.N) : t = tick := fin_N0 t

/-- A staging buffer holding `X`, as the body finds it. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

section Walk

variable (K : Dev nD × Fin 3 → ℕ)

/-- The send of a half that reads the device's table: the half comes back at the out cell, the table lands at the partner. -/
theorem send_table (c n : Dev nD) (hn : n = mate c)
    {hsc : (land : Memref sig (Dev.tc n : Thread nD τ).2.kind .vmem S256x8 .bf16).view.ref.isScScratch = false}
    {hsrc : own.view.WordExact} {hdst : land.view.WordExact}
    {hsem : DmaTarget.Typed .vmem (.dma inS.sem) (.remote (Dev.tc n : Thread nD τ) (land : Memref sig .tc .vmem S256x8 .bf16) (.dma outS.sem) hsc)}
    {α : Type} {Q : α → sProp 𝕄} {k : PUnit → Prog (TpuEff nD τ sig (Elt F) Λ₀ .tc) α}
    (fs : Buf (Elt F) (own.view.loc (c : Thread nD τ))) (hfs : own.view.read (Elt F) fs = table m c)
    (fd : Buf (Elt F) (land.view.loc (mate c : Thread nD τ))) (W : Waits sig Unit) :
    iprop(cellInv EX (plan m) (K (c, 1)) (cell c 1) ∗ cellInv EX (plan m) (K (mate c, 2)) (cell (mate c) 2)
        ∗ ownPts c fs ∗ landPts (mate c) fd
        ∗ owes (c : Thread nD τ) (tallyAt (cell (mate c) 2) () N) W
        ∗ dutyTok EX (cell c 1) 0 () ∗ reached EX (cell c 1) 0
        ∗ dutyTok EX (cell (mate c) 2) 0 () ∗ reached EX (cell (mate c) 2) 0)
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma own (.remote (Dev.tc n : Thread nD τ) land (.dma outS.sem) hsc) (.dma inS.sem) hsrc hdst hsem) k) Q) := by
  subst hn
  unfold ownPts landPts
  exact Rounds.wp_send_pointsTo 𝒱₀ EX (plan m) (c : Thread nD τ) none (κ₁ := K (c, 1)) (κ₂ := K (mate c, 2))
    (r₁ := 0) (r₂ := 0) (d₁ := ()) (d₂ := ()) (fd := fd) (duty_mem m c 1) (duty_mem m (mate c) 2)
    () () N rfl (amount_cell m c 1) (amount_cell m (mate c) 2) 0 (by rw [zero_add]) (W := W)
    (by
      rw [show (plan (F := F) m).payload ((c : Thread nD τ), .dma outS.sem) 0 () = gift m c 1 from payload_cell m c 1]
      unfold gift ownPts
      iintro H; iexists fs; iexact H)
    (by
      rw [show (plan (F := F) m).payload ((mate c : Thread nD τ), .dma inS.sem) 0 () = gift m (mate c) 2 from payload_cell m (mate c) 2]
      unfold gift landPts
      rw [mate_mate]
      iintro H; iexists (land.view.write (Elt F) fd (own.view.read (Elt F) fs) Finset.univ)
      isplitr; · (ipureintro; rw [hfs]; exact land_read_written fd (table m c))
      iexact H)

/-- After the store of its table a device's own half reads that table. -/
theorem stored_own (c : Dev nD) (f : Buf (Elt F) (own.view.loc (c : Thread nD τ))) :
    (ownPts c ((sM.access box0 : View sig .tc _ _ _).write (Elt F) f
        (k0_pay10 (k0_pay3 (blockIn m c)) (k0_pay5 (blockIn m c)) (k0_pay6 (blockIn m c)) (k0_pay7 (blockIn m c)) (k0_pay8 (blockIn m c))
          (Scalar.ofBits .f32 0xFF800000#32)) Finset.univ) : sProp 𝕄)
      ⊢ iprop(∃ fs, ⌜own.view.read (Elt F) fs = table m c⌝ ∗ ownPts c fs) := by
  iintro H; iexists _
  isplitr; rotate_left; · iexact H
  ipureintro; exact own_read_stored f (table m c)

def bodyPre (c : Dev nD) : sProp 𝕄 :=
  iprop((ghost m K c ∗ credits c ∗ levAts L lv
      ∗ ∃ f : Buf (Elt F) ((c : Thread nD τ).loc cc0_scratch0), ((c : Thread nD τ).loc cc0_scratch0) ↦{fullShare} f)
    ∗ (dats m 0 c).owesAt () tick.castSucc
    ∗ (∃ d, held c cc0_stg0_0 ((dats m 0 c).before (0 : Fin 2) tick d))
    ∗ (∃ d, held c cc0_stg1_0 ((dats m 0 c).before (1 : Fin 2) tick d)))

def bodyPost (c : Dev nD) : sProp 𝕄 :=
  iprop(After c ∗ (dats m 0 c).owesAt () tick.succ ∗ held c cc0_stg0_0 (blockIn m c) ∗ held c cc0_stg1_0 (result m c))

set_option maxHeartbeats 200000 in
/-- The body's walk. -/
theorem walk (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost invs marks spots dues credits
  iintro ⟨⟨⟨⟨⟨#IDoor, #IOut, #IIn, #IDoorM, #IInM⟩, ⟨#RDoorM, #RInM, #ROut, #RIn⟩, ⟨PDoor, POut, PIn⟩, TDoorM, TInM, TOut⟩, ⟨CDoor, CIn⟩, #Hlev, ⟨%f0, Hbuf⟩⟩,
    Ho, ⟨%d0, %g0, %hg0, Hx⟩, ⟨%d1, %g1, %hg1, Hres⟩⟩, Hk⟩
  have hx : g0 = blockIn m c := by rw [hg0]; unfold Dat.before; rw [if_pos (fetch0_0 tick)]; rfl
  subst hx
  unfold Dat.owesAt Pipeline.owesWithin
  icases Ho with ⟨%W, %hW, HO⟩
  rw [show (dats m 0 c).owed tick.castSucc = debt c from rfl]
  unfold debt
  simp only [dev1_eq c]
  ihave Hh := (halves (F := F) c f0) $$ Hbuf
  icases Hh with ⟨Hown, Hland⟩
  -- the partner's door opens, and the partner has the landing half
  iapply (Rounds.wp_signal 𝒱₀ EX (plan m) (c : Thread nD τ) none (dst := (mate c : Thread nD τ)) (κ := K (mate c, 0))
      (d := ()) (duty_mem m (mate c) 0) ((amount_cell m (mate c) 0).trans (by decide)) () (tallyAt (cell (mate c) 2) () N) rfl)
    $$ [HO TDoorM Hland]
  · isplitr; · iexact IDoorM
    isplitl [HO]; · iexact HO
    isplitl [TDoorM]; · iexact TDoorM
    isplitl [Hland]
    · rw [show (plan (F := F) m).payload ((mate c : Thread nD τ), .reg doorS) 0 () = gift m (mate c) 0 from payload_cell m (mate c) 0]
      unfold gift; rw [mate_mate]
      isplitl [Hland]; · iexists f0; iexact Hland
      iexact RIn
    · iexact RDoorM
  iintro HO
  -- the block is loaded, the table made and put into the own half
  iapply (wp_load 𝒱₀ (c : Thread nD τ) none Set.univ (m := xM) (Finset.subset_univ _)) $$ Hx; iintro Hx
  rw [load_x]
  unfold ownPts
  iapply (wp_load 𝒱₀ (c : Thread nD τ) none Set.univ (m := sM) load_own_subset) $$ Hown; iintro Hown
  iapply (wp_store 𝒱₀ (c : Thread nD τ) none Set.univ (m := sM) (r := box0) (Mk := Finset.univ) store_own_subset) $$ Hown; iintro Hown
  ihave Hs := (stored_own m c f0) $$ [Hown]
  · unfold ownPts; iexact Hown
  icases Hs with ⟨%fs, %hfs, Hown⟩
  -- the own door
  iapply (Rounds.wp_wait_rest_token 𝒱₀ EX (plan m) (c : Thread nD τ) none (κ := K (c, 0))
      (wpE_semWait_eq 𝒱₀ (c : Thread nD τ) none Set.univ) (Set.mem_univ _) () (O := tallyAt (cell (mate c) 2) () N) (W := W) (R := 0) (m := 0) (T := ∅)
      (by rw [Nat.zero_add]; exact (expect_cell m c 0).symm)) $$ [CDoor HO PDoor]
  · isplitr; · iexact IDoor
    isplitl [CDoor]; · iexact CDoor
    isplitl [HO]; · iexact HO
    isplitr; · iapply (wait_door c); iexact Hlev
    iexact PDoor
  iintro ⟨HO, PDoor, -, Hpay⟩
  ihave Hp := (Entails.of_eq (rest_cell m c 0)) $$ Hpay
  unfold gift
  icases Hp with ⟨⟨%fn, HlandM⟩, #RInM'⟩
  -- the transfer
  iapply (send_table m K c ⟨k0_dev2 c, k0_dev2_lt c⟩ (dev2_eq c) fs hfs fn (insert (SemLoc.reg doorS, ()) W)) $$ [Hown HlandM HO TOut TInM]
  · isplitr; · iexact IOut
    isplitr; · iexact IInM
    isplitl [Hown]; · iexact Hown
    isplitl [HlandM]; · iexact HlandM
    isplitl [HO]; · iexact HO
    isplitl [TOut]; · iexact TOut
    isplitr; · iexact ROut
    isplitl [TInM]; · iexact TInM
    iexact RInM
  iintro ⟨COut, HO⟩
  -- the own half comes back
  iapply (Rounds.wp_wait_rest_token 𝒱₀ EX (plan m) (c : Thread nD τ) none (κ := K (c, 1))
      (wpE_waitDma2_eq 𝒱₀ (c : Thread nD τ) none Set.univ) (Set.mem_univ _) () (O := 0) (W := insert (SemLoc.reg doorS, ()) W) (R := 0) (m := 0) (T := ∅)
      (by rw [Nat.zero_add]; exact (expect_cell m c 1).symm)) $$ [COut HO POut]
  · isplitr; · iexact IOut
    isplitl [COut]; · iexact COut
    isplitl [HO]; · iexact HO
    isplitr; · rw [MayWait_zero]; iempintro
    iexact POut
  iintro ⟨HO, POut, -, Hpay⟩
  ihave Hp := (Entails.of_eq (rest_cell m c 1)) $$ Hpay
  unfold gift
  icases Hp with ⟨%fo, Hown⟩
  -- the partner's table is here
  iapply (Rounds.wp_wait_rest_token 𝒱₀ EX (plan m) (c : Thread nD τ) none (κ := K (c, 2))
      (wpE_waitDma2_eq 𝒱₀ (c : Thread nD τ) none Set.univ) (Set.mem_univ _) () (O := 0)
      (W := insert (SemLoc.dma outS.sem, ()) (insert (SemLoc.reg doorS, ()) W)) (R := 0) (m := 0) (T := ∅)
      (by rw [Nat.zero_add]; exact (expect_cell m c 2).symm)) $$ [CIn HO PIn]
  · isplitr; · iexact IIn
    isplitl [CIn]; · iexact CIn
    isplitl [HO]; · iexact HO
    isplitr; · rw [MayWait_zero]; iempintro
    iexact PIn
  iintro ⟨HO, PIn, -, Hpay⟩
  ihave Hp := (Entails.of_eq (rest_cell m c 2)) $$ Hpay
  unfold gift
  icases Hp with ⟨%fl, %hfl, Hland⟩
  -- the cells close at zero
  imod (Rounds.cell_close EX (plan m) (Set.mem_univ (K (c, 1))) (fun h => h) (R := 0 + 1) (duties_later m (cell c 1))) $$ [POut] with ZOut
  · isplitr; · iexact IOut
    iexact POut
  imod (Rounds.cell_close EX (plan m) (Set.mem_univ (K (c, 2))) (fun h => h) (R := 0 + 1) (duties_later m (cell c 2))) $$ [PIn] with ZIn
  · isplitr; · iexact IIn
    iexact PIn
  imod (Rounds.cell_close EX (plan m) (Set.mem_univ (K (c, 0))) (fun h => h) (R := 0 + 1) (duties_later m (cell c 0))) $$ [PDoor] with ZDoor
  · isplitr; · iexact IDoor
    iexact PDoor
  -- the received table is loaded and the merged one stored
  unfold landPts
  iapply (wp_load 𝒱₀ (c : Thread nD τ) none Set.univ (m := sM) load_land_subset) $$ Hland; iintro Hland
  iapply (wp_load 𝒱₀ (c : Thread nD τ) none Set.univ (m := oM) (Finset.subset_univ _)) $$ Hres; iintro Hres
  iapply (wp_store 𝒱₀ (c : Thread nD τ) none Set.univ (m := oM)
    (r := Rect.unit (s := S256x8) ![0, 0] S256x8.size inb_S256x8_S256x8_0_0) (Mk := Finset.univ) (Finset.subset_univ _)) $$ Hres; iintro Hres
  rw [store_o, mergeOf_loaded, land_load, hfl, wp_ret]; imodintro
  iapply Hk
  unfold bodyPost After Dat.owesAt Pipeline.owesWithin
  rw [show (dats m 0 c).owed tick.succ = 0 from rfl]
  isplitl [Hown Hland ZOut ZIn ZDoor]
  · isplitl [Hown Hland]
    · iapply (rejoin (F := F) c fo fl)
      isplitl [Hown]; · iexact Hown
      unfold landPts; iexact Hland
    isplitl [ZOut]; · iexact ZOut
    isplitl [ZIn] <;> iassumption
  isplitl [HO]
  · iexists (insert (SemLoc.dma inS.sem, ()) (insert (SemLoc.dma outS.sem, ()) (insert (SemLoc.reg doorS, ()) W)))
    isplitr; · ipureintro; exact fun _ _ => Or.inl trivial
    iexact HO
  isplitl [Hx]
  · iexists _; isplitr; · (ipureintro; rfl)
    iexact Hx
  iexists _; isplitr; · (ipureintro; rfl)
  iexact Hres

def bodyPre' (c : Dev nD) : sProp 𝕄 :=
  iprop(Before m c ∗ (dats m 0 c).owesAt () tick.castSucc
    ∗ (∃ d, held c cc0_stg0_0 ((dats m 0 c).before (0 : Fin 2) tick d))
    ∗ (∃ d, held c cc0_stg1_0 ((dats m 0 c).before (1 : Fin 2) tick d)))

set_option maxRecDepth 4000 in
/-- The walk as the launch asks for it. -/
theorem body_ok (c : Dev nD) : BodyObligation (dats (F := F) m 0 c) (defs₀ (F := F)) 𝒱₀ () Set.univ := fun t => by
  rw [tick_eq t, bigSep_W0, bigSep_W0]
  simp only [owns_held]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Before start
  iintro ⟨⟨⟨⟨%K, Hg⟩, Hc, Hlev⟩, Hbuf⟩, Ho, Hx, Hres⟩
  iapply (walk m K c fun _ => bodyPost m c)
  unfold bodyPre
  isplitr []
  · isplitl [Hg Hc Hlev Hbuf]
    · isplitl [Hg]; · iexact Hg
      isplitl [Hc]; · iexact Hc
      isplitl [Hlev]; · iexact Hlev
      iexact Hbuf
    isplitl [Ho]; · iexact Ho
    isplitl [Hx] <;> iassumption
  · iintro H; iexact H

end Walk

end Cert.Swap

end
-- ==== Proof.Run.lean ====
/-
The run of @main on the eight devices: every device's result array ends at the merge of its own table and its partner's,
its block is unchanged and every counter is back at zero. The launch deals each device its duties, positions and credit.
-/
module

public import proofs.«01_k».proof.Proof.Body
public import Idealize.ShloMosaic.Lib.Pipeline.CollectiveSegs

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch mints -/

theorem ownSite_ok : Pipeline.OwnSemFacts cfg0.spec ownSite := by decide
theorem whole_share (c : Dev nD) (w : Fin cfg0.W) : (dats m 0 c).share w = fullShare := by unfold Dat.share; split <;> rfl

abbrev cellAt (p : Dev nD × Fin 3) : GSem nD τ sig := cell p.1 p.2
theorem cellAt_injective : Function.Injective (cellAt : Dev nD × Fin 3 → GSem nD τ sig) := fun _ _ h => by
  obtain ⟨h1, h2⟩ := cell_eq_iff.mp h
  exact Prod.ext h1 h2
def allCells : Finset (GSem nD τ sig) := Finset.univ.map ⟨cellAt, cellAt_injective⟩

/-- One duty token per cell. -/
abbrev tokAt (p : Dev nD × Fin 3) : GSem nD τ sig × ℕ × Unit := (cellAt p, 0, ())
theorem tokAt_injective : Function.Injective (tokAt : Dev nD × Fin 3 → GSem nD τ sig × ℕ × Unit) :=
  fun _ _ h => cellAt_injective (congrArg Prod.fst h)
def allToks : Finset (GSem nD τ sig × ℕ × Unit) := Finset.univ.map ⟨tokAt, tokAt_injective⟩

def seed : UU := (initOf (Pipeline.cells cfgs cellOf_inj) (Pipeline.launchToks cfgs cellOf_inj), initOf allCells allToks)

omit [FloatOps F] in
theorem over3 (Φ : Fin 3 → sProp 𝕄) : bigSep Finset.univ Φ = iprop(Φ 0 ∗ Φ 1 ∗ Φ 2) := bigSep_univ_eq_bigSepL [0, 1, 2] (by decide) (by decide) Φ

/-- The tokens of a device's own cells. -/
def minted (c : Dev nD) : sProp 𝕄 := bigSep Finset.univ fun k : Fin 3 => dutyTok EX (cell c k) 0 ()
/-- What the launch deals a device: its cells' states, its positions at them, the tokens of its cells. -/
def hand (c : Dev nD) : sProp 𝕄 :=
  iprop((bigSep Finset.univ fun k : Fin 3 => roundState EX (plan m) (cell c k) 0)
    ∗ (bigSep Finset.univ fun k : Fin 3 => atPos EX (cell c k) 0 ∅ 0)
    ∗ (bigSep Finset.univ fun k : Fin 3 => reached EX (cell c k) 0) ∗ minted c)
/-- What it has once the tokens have been passed to who pays. -/
def ready (c : Dev nD) : sProp 𝕄 := iprop(∃ K, ghost m K c)

omit [FloatOps F] in
theorem over_cells (Φ : GSem nD τ sig → sProp 𝕄) :
    bigSep allCells Φ = bigSep Finset.univ fun c : Dev nD => bigSep Finset.univ fun k : Fin 3 => Φ (cell c k) := by
  unfold allCells; rw [bigSep_map, bigSep_univ_prod]; rfl
omit [FloatOps F] in
theorem over_toks : bigSep allToks (fun x => (dutyTok EX x.1 x.2.1 x.2.2 : sProp 𝕄)) = bigSep Finset.univ fun c : Dev nD => minted c := by
  unfold allToks minted; rw [bigSep_map, bigSep_univ_prod]; rfl

theorem deal : BI.own (EX (initOf allCells allToks)) ⊢ (|==> bigSep Finset.univ (hand m) : sProp 𝕄) := by
  iintro HX
  imod (Rounds.fund EX (plan m) allCells allToks) $$ HX with ⟨Hst, Hr, Hat, Htok⟩
  imodintro
  ihave Hst' := (Entails.of_eq (over_cells fun g => roundState EX (plan m) g 0)) $$ Hst
  ihave Hat' := (Entails.of_eq (over_cells fun g => atPos EX g 0 ∅ 0)) $$ Hat
  ihave Hr' := (Entails.of_eq (over_cells fun g => reached EX g 0)) $$ Hr
  ihave Htok' := (Entails.of_eq (over_toks (F := F))) $$ Htok
  unfold hand; simp only [bigSep_sep']
  isplitl [Hst']; · iexact Hst'
  isplitl [Hat']; · iexact Hat'
  isplitl [Hr']; · iexact Hr'
  iexact Htok'

omit [FloatOps F] in
theorem own_zero (c : Dev nD) : (Pipeline.ownSems0 (Ix := Unit) (Name := ℕ) (U := UU) (Lvl := ℕ) (Val := Elt F) (τ := τ) ownSite c : sProp 𝕄)
    = iprop(semVal (cell c 1) 0 ∗ semVal (cell c 2) 0) := by
  rw [Pipeline.ownSems0_eq_of_list c ownSite [0, 1] (by decide) (by decide)]; rfl
omit [FloatOps F] in
theorem door_zero (c : Dev nD) : (unscopedSems0 c : sProp 𝕄) = semVal (cell c 0) 0 := by
  unfold unscopedSems0; rw [bigSep_eq_bigSepL_of_eq [SemLoc.reg doorS] (by decide) (by decide)]; rfl

/-- A device's three cells become invariants. -/
theorem cells_up (c : Dev nD) :
    iprop(Pipeline.ownSems0 (Ix := Unit) (Name := ℕ) (U := UU) (Lvl := ℕ) (Val := Elt F) (τ := τ) ownSite c ∗ unscopedSems0 c ∗ hand m c)
      ⊢ |={Set.univ}=> iprop((bigSep Finset.univ fun k => iprop(∃ κ : ℕ, cellInv EX (plan m) κ (cell c k)))
          ∗ (bigSep Finset.univ fun k : Fin 3 => atPos EX (cell c k) 0 ∅ 0)
          ∗ (bigSep Finset.univ fun k : Fin 3 => reached EX (cell c k) 0) ∗ minted c) := by
  unfold hand
  rw [own_zero, door_zero]
  iintro ⟨⟨HOut, HIn⟩, HDoor, Hst, Hat, Hr, Htok⟩
  imod (show iprop((bigSep Finset.univ fun k : Fin 3 => semVal (cell c k) 0) ∗ bigSep Finset.univ fun k : Fin 3 => roundState EX (plan m) (cell c k) 0)
      ⊢ (|={Set.univ}=> bigSep Finset.univ fun k => iprop(∃ κ : ℕ, cellInv EX (plan m) κ (cell c k)) : sProp 𝕄) from by
        rw [← bigSep_sep']
        exact (bigSep_mono fun k _ => (Rounds.body_intro EX (plan m) (cell c k)).trans inv_alloc).trans (bigSep_fupd _ _)) $$ [HOut HIn HDoor Hst] with Hinv
  · isplitr [Hst]
    · rw [over3]
      isplitl [HDoor]; · iexact HDoor
      isplitl [HOut] <;> iassumption
    · iexact Hst
  imodintro
  isplitl [Hinv]; · iexact Hinv
  isplitl [Hat]; · iexact Hat
  isplitl [Hr] <;> iassumption

/-- Every cell's invariant, and that every cell has reached round 0. -/
def ledger (K : Dev nD × Fin 3 → ℕ) : sProp 𝕄 :=
  iprop((bigSep Finset.univ fun p : Dev nD × Fin 3 => cellInv EX (plan m) (K p) (cellAt p))
    ∗ bigSep Finset.univ fun p : Dev nD × Fin 3 => reached EX (cellAt p) 0)
instance ledger_persistent (K : Dev nD × Fin 3 → ℕ) : BI.Persistent (ledger m K) := by unfold ledger; infer_instance

theorem ledger_inv (K : Dev nD × Fin 3 → ℕ) (p : Dev nD × Fin 3) :
    (bigSep Finset.univ fun p : Dev nD × Fin 3 => (cellInv EX (plan m) (K p) (cellAt p) : sProp 𝕄)) ⊢ cellInv EX (plan m) (K p) (cellAt p) :=
  bigSep_elim (Finset.mem_univ p)
omit [FloatOps F] in
theorem ledger_mark (p : Dev nD × Fin 3) :
    (bigSep Finset.univ fun p : Dev nD × Fin 3 => (reached EX (cellAt p) 0 : sProp 𝕄)) ⊢ reached EX (cellAt p) 0 :=
  bigSep_elim (Finset.mem_univ p)

theorem ghost_of (K : Dev nD × Fin 3 → ℕ) (c : Dev nD) : iprop(ledger m K ∗ (spots c ∗ dues c)) ⊢ ready m c := by
  unfold ledger ready ghost invs marks
  iintro ⟨⟨#HI, #HR⟩, HP, HD⟩
  iexists K
  isplitr
  · isplitr; · iapply (ledger_inv m K (c, 0)); iexact HI
    isplitr; · iapply (ledger_inv m K (c, 1)); iexact HI
    isplitr; · iapply (ledger_inv m K (c, 2)); iexact HI
    isplitr; · iapply (ledger_inv m K (mate c, 0)); iexact HI
    iapply (ledger_inv m K (mate c, 2)); iexact HI
  isplitr
  · isplitr; · iapply (ledger_mark (F := F) (mate c, 0)); iexact HR
    isplitr; · iapply (ledger_mark (F := F) (mate c, 2)); iexact HR
    isplitr; · iapply (ledger_mark (F := F) (c, 1)); iexact HR
    iapply (ledger_mark (F := F) (c, 2)); iexact HR
  isplitl [HP] <;> iassumption

omit [FloatOps F] in
/-- The door and in tokens go to the partner, who pays them. -/
theorem pass_tokens : (bigSep Finset.univ fun c : Dev nD => (minted c : sProp 𝕄)) ⊢ bigSep Finset.univ fun c : Dev nD => dues c := by
  unfold minted dues
  simp only [over3]
  rw [bigSep_sep', bigSep_sep', bigSep_sep', bigSep_sep',
    bigSep_univ_equiv mates (fun c : Dev nD => (dutyTok EX (cell c 0) 0 () : sProp 𝕄)),
    bigSep_univ_equiv mates (fun c : Dev nD => (dutyTok EX (cell c 2) 0 () : sProp 𝕄))]
  iintro ⟨H0, H1, H2⟩
  isplitl [H0]; · iexact H0
  isplitl [H2]; · iexact H2
  iexact H1

omit [FloatOps F] in
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (plan m) κ (cell c k)))
          ∗ (bigSep Finset.univ fun k : Fin 3 => atPos EX (cell c k) 0 ∅ 0)
          ∗ (bigSep Finset.univ fun k : Fin 3 => reached EX (cell c k) 0) ∗ minted c) : sProp 𝕄)
      ⊢ bigSep Finset.univ (ready m) := by
  rw [bigSep_sep', bigSep_sep', bigSep_sep', ← bigSep_univ_prod (fun p : Dev nD × Fin 3 => iprop(∃ κ : ℕ, cellInv EX (plan m) κ (cellAt p))),
    ← bigSep_univ_prod (fun p : Dev nD × Fin 3 => (reached EX (cellAt p) 0 : sProp 𝕄))]
  iintro ⟨HI, Hat, #HR, Htok⟩
  ihave HK := (BI.bigSep_exists_pi Finset.univ (fun (p : Dev nD × Fin 3) (κ : ℕ) => (cellInv EX (plan m) κ (cellAt p) : sProp 𝕄))) $$ HI
  icases HK with ⟨%K, #HI⟩
  ihave Htk := (pass_tokens (F := F)) $$ Htok
  iapply (spread (R := ledger m K) fun c _ => ghost_of m K c)
  isplitr
  · unfold ledger; isplitl; · iexact HI
    iexact HR
  · rw [bigSep_sep']
    isplitl [Hat]
    · iapply (Entails.of_eq (bigSep_congr (s := Finset.univ) fun (c : Dev nD) _ =>
        show (bigSep Finset.univ fun k : Fin 3 => (atPos EX (cell c k) 0 ∅ 0 : sProp 𝕄)) = spots c from by unfold spots; rw [over3]))
      iexact Hat
    · iexact Htk

theorem everyone : (bigSep Finset.univ fun c => iprop(Pipeline.ownSems0 (Ix := Unit) (Name := ℕ) (U := UU) (Lvl := ℕ) (Val := Elt F) (τ := τ) ownSite c
      ∗ unscopedSems0 c ∗ hand m c) : sProp 𝕄)
    ⊢ |={Set.univ}=> bigSep Finset.univ (ready m) :=
  ((bigSep_mono fun c _ => cells_up m c).trans (bigSep_fupd _ _)).trans (BI.fupd_mono (regroup m))

/-! ## The credit dealt at the launch -/

/-- What device `d` owes at device `c`'s cell `k`: its worth, if `d` is the partner and the cell is the door or the in cell. -/
theorem debt_at (d c : Dev nD) (k : Fin 3) (hk : k = 0 ∨ k = 2) : debt d (cell c k) () = if d = mate c then worth k else 0 := by
  unfold debt
  rw [Pi.add_apply, Finsupp.add_apply, tallyAt_apply, tallyAt_apply]
  have e (j : Fin 3) : (cell c k = cell (mate d) j ∧ () = ()) ↔ (d = mate c ∧ k = j) := by
    rw [cell_eq_iff, and_iff_left rfl]
    exact and_congr_left' ⟨fun h => by rw [h, mate_mate], fun h => by rw [h, mate_mate]⟩
  rw [if_congr (e 2) rfl rfl, if_congr (e 0) rfl rfl]
  by_cases h : d = mate c
  · rw [if_pos h]
    rcases hk with rfl | rfl
    · rw [if_neg (fun h' => absurd h'.2 (by decide)), if_pos ⟨h, rfl⟩, Nat.zero_add]; rfl
    · rw [if_pos ⟨h, rfl⟩, if_neg (fun h' => absurd h'.2 (by decide))]; rfl
  · rw [if_neg h, if_neg (fun h' => h h'.1), if_neg (fun h' => h h'.1)]

theorem credit_at (c : Dev nD) (k : Fin 3) (hk : k = 0 ∨ k = 2) :
    tallyOn (cell c k) (launchCredit (Pipeline.owing debt) 0 (cell c k)) = (tallyAt (cell c k) () (worth k) : CellTallies nD τ sig Unit) := by
  unfold tallyAt; refine congrArg _ (Finsupp.ext fun u => ?_); cases u
  rw [Pipeline.launchCredit_owing, Finsupp.single_eq_same, Finset.sum_congr rfl fun d _ => debt_at d c k hk,
    Finset.sum_ite_eq' Finset.univ (mate c) fun _ => worth k, if_pos (Finset.mem_univ _)]

omit [FloatOps F] in
theorem credits_of (c : Dev nD) : (Pipeline.launchCred debt c : sProp 𝕄) ⊢ credits c := by
  unfold Pipeline.launchCred credits
  rw [bigSep_univ_at _ (site 0), credit_at c 0 (.inl rfl)]
  refine sep_mono_right ?_
  rw [show (tallyAt (cell c 2) () N : CellTallies nD τ sig Unit) = tallyAt (cell c 2) () (worth 2) from rfl, ← credit_at c 2 (.inr rfl)]
  exact bigSep_elim (Finset.mem_erase.mpr ⟨fun h => absurd (site_injective h) (by decide), Finset.mem_univ _⟩)

/-! ## What the launch asks for -/

theorem to_start (c : Dev nD) :
    iprop(Pipeline.unscopedRestP Pipeline.Prefetch.none cfg0.spec c (fun b => m ((c : Thread nD τ).loc b)) ∗ levAts L lv
        ∗ Pipeline.launchCred debt c ∗ prngReg c (ρ c) ∗ ready m c)
      ⊢ |={Set.univ}=> iprop(start m c ∗ emp) := by
  iintro ⟨-, Hlev, Hcr, -, HG⟩
  ihave Hc := (credits_of (F := F) c) $$ Hcr
  imodintro
  unfold start ready
  isplitl
  · isplitl [HG]; · iexact HG
    isplitl [Hc]; · iexact Hc
    iexact Hlev
  · iempintro

theorem to_before (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Before m c from rfl, scopedRest0_eq]
  unfold Before
  iintro ⟨Hs, -, Hr⟩
  isplitl [Hs] <;> iassumption

theorem from_after (c : Dev nD) :
    (dats m 0 c).Φ (Fin.last cfg0.N) ⊢ iprop(unscopedSems0 c ∗ Pipeline.ownSems0 ownSite c ∗ Pipeline.scopedRest cfg0.spec c) := by
  rw [show (dats m 0 c).Φ (Fin.last cfg0.N) = After c from rfl, scopedRest0_eq, own_zero, door_zero]
  unfold After
  iintro ⟨Hr, HOut, HIn, HDoor⟩
  isplitl [HDoor]; · iexact HDoor
  isplitl [HOut HIn]
  · isplitl [HOut] <;> iassumption
  iexact Hr

theorem stage_waits (c : Dev nD) : (levAts L lv : sProp 𝕄) ⊢ Pipeline.cellsWaits cfgs (dats m) () 0 c :=
  Pipeline.cellsWaits_intro cfgs (dats m) () 0 c fun w s t =>
    wait_staging c _ (by fin_cases w <;> fin_cases s <;> decide) _ (by
      rcases t with ⟨_ | _, ht⟩
      · exact Or.inl rfl
      · exact Or.inr rfl)

/-! ## The run -/

set_option maxRecDepth 8000 in
/-- From any memory, with all counters zero: every fair execution of @main ends, with each window's array at what the
    pipeline's data says and every counter zero. -/
theorem run_arrays : θ_run defs (onTc (τ := τ) (main (F := F))) (s₀ m ρ)
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSite_ok (Pipeline.PreFacts.none _) EP defs₀ 𝒱₀ m ρ main
    (hmain := fun _ => rfl)
    (hbody := body_ok m) (hne := fun w => by fin_cases w <;> exact Nat.succ_pos _) (harr := arr_whole0) (hstage := stage_whole0) (hshare := whole_share m)
    (hdistinct := winFacts0.arr_inj)
    (O₀ := debt) (howed₀ := fun _ => rfl) (howedN := fun _ => rfl)
    (L := L) (lv := lv) (hL := L_of_ne) (hwaits := stage_waits m)
    (G := hand m) (G' := ready m) (u₀ := seed)
    (hu₀ := by
      unfold seed
      iintro Hu
      ihave H := (ownU_pair _ _) $$ Hu
      icases H with ⟨HP, HX⟩
      imod (deal m) $$ HX with HG
      imodintro
      isplitl [HP] <;> iassumption)
    (hglob := everyone m)
    (hA := fun _ _ => rfl) (hpf := fun _ k => k.elim0)
    (X := start m) (Y := fun c => unscopedSems0 c) (Z := fun _ => iprop(emp))
    (hX := to_start m ρ) (hin := to_before m) (hout := from_after m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The one block of the argument is the argument; -/
theorem blockIn_eq (c : Dev nD) : blockIn m c = m ((c : Thread nD τ).loc main_arg0) := by
  unfold blockIn
  funext i
  rw [View.read_apply]
  refine congrArg (m ((c : Thread nD τ).loc main_arg0)) (funext fun a => Fin.ext ?_)
  show 0 * S256x1024.size a + 1 * (i a).val = (i a).val
  rw [Nat.zero_mul, Nat.zero_add, Nat.one_mul]

/-- the one block of the result is the result. -/
theorem final_result (c : Dev nD) : (dats m 0 c).arrAt (1 : Fin 2) cfg0.N = result m c := by
  refine (dats m 0 c).arrAt_eq_of_cover (1 : Fin 2) (result m c) (fun t _ => ?_) (fun i => ⟨tick, flush0_1 _, ?_⟩)
  · rw [tick_eq t]
    funext i
    rw [View.read_apply]
    refine congrArg (result m c) (funext fun a => Fin.ext ?_)
    show (i a).val = 0 * S256x8.size a + 1 * (i a).val
    rw [Nat.zero_mul, Nat.zero_add, Nat.one_mul]
  · have e : ((cfg0.win 1).blk tick).view.emb i = i := funext fun a => Fin.ext (by
      show 0 * S256x8.size a + 1 * (i a).val = (i a).val
      rw [Nat.zero_mul, Nat.zero_add, Nat.one_mul])
    exact e ▸ View.emb_mem_set _ i

/-- From any memory, with all counters zero: every fair execution of @main ends, each device holding the merge of its
    table and its partner's, its block unchanged, every counter zero. -/
theorem run_main : θ_run defs (onTc (τ := τ) (main (F := F))) (s₀ m ρ)
    (fun r => (∀ c : Dev nD, r.2.mem ((c : Thread nD τ).loc main_v1) = result m c
        ∧ r.2.mem ((c : Thread nD τ).loc main_arg0) = m ((c : Thread nD τ).loc main_arg0)) ∧ r.2.sem = fun _ => 0) :=
  (θ_run defs _ _).mono (fun _ h => ⟨fun c => ⟨(h.1 c 1).trans (final_result m c), (h.1 c 0).trans ((dats m 0 c).arrAt_in (0 : Fin 2) rfl _)⟩, h.2⟩)
    (run_arrays m ρ)

end Cert.Swap

end
-- ==== Proof.Distinct.lean ====
/-
The distinct values of a set in decreasing order, and three ways to reach them: by striking out the maximum again and
again, by sorting, and by merging the lists of two parts.
-/
module

public import Mathlib.Order.CompleteLattice.Basic
public import Mathlib.Order.CompleteLattice.Lemmas
public import Mathlib.Order.ConditionallyCompleteLattice.Finset
public import Mathlib.Data.Set.Finite.Lattice
public import Mathlib.Data.Finset.Max
public import Mathlib.Data.EReal.Basic

@[expose] public section

namespace Cert.Distinct

variable {α : Type} [CompleteLinearOrder α]

/-- The `k`-th greatest value of `S` with repetitions not counted: the supremum, then the supremum of what is less than the
    one before. Once `S` is exhausted it is the bottom. -/
noncomputable def nth (S : Set α) : ℕ → α
  | 0 => sSup S
  | k + 1 => sSup {x | x ∈ S ∧ x < nth S k}

theorem nth_zero (S : Set α) : nth S 0 = sSup S := rfl
theorem nth_succ (S : Set α) (k : ℕ) : nth S (k + 1) = sSup {x | x ∈ S ∧ x < nth S k} := rfl

theorem nth_succ_le (S : Set α) (k : ℕ) : nth S (k + 1) ≤ nth S k := sSup_le fun _ hx => hx.2.le

/-- A value of the set that is not among those before is at most the next. -/
theorem le_nth_succ {S : Set α} {k : ℕ} {x : α} (hx : x ∈ S) (h : x < nth S k) : x ≤ nth S (k + 1) := le_sSup ⟨hx, h⟩

/-- More values, no less at any place. -/
theorem nth_mono {A S : Set α} (h : A ⊆ S) : ∀ k, nth A k ≤ nth S k
  | 0 => sSup_le_sSup h
  | k + 1 => sSup_le fun _ hx => le_nth_succ (h hx.1) (hx.2.trans_le (nth_mono h k))

/-- The bottom does not matter: it may be added. -/
theorem nth_mono_bot {A S : Set α} (h : ∀ x ∈ A, x ∈ S ∨ x = ⊥) : ∀ k, nth A k ≤ nth S k
  | 0 => sSup_le fun x hx => (h x hx).elim (fun hs => le_sSup hs) fun e => e ▸ bot_le
  | k + 1 => sSup_le fun x hx => (h x hx.1).elim (fun hs => le_nth_succ hs (hx.2.trans_le (nth_mono_bot h k))) fun e => e ▸ bot_le

/-- In a finite set the next value is a value of the set less than the one before, unless it is the bottom. -/
theorem nth_succ_spec {S : Set α} (hS : S.Finite) (k : ℕ) (h : nth S (k + 1) ≠ ⊥) : nth S (k + 1) ∈ S ∧ nth S (k + 1) < nth S k := by
  have hne : {x | x ∈ S ∧ x < nth S k}.Nonempty := by
    by_contra h'
    rw [Set.not_nonempty_iff_eq_empty] at h'
    exact h (by rw [nth_succ, h', sSup_empty])
  exact hne.csSup_mem (hS.subset fun _ hx => hx.1)

theorem nth_mem {S : Set α} (hS : S.Finite) : ∀ k, nth S k ≠ ⊥ → nth S k ∈ S
  | 0, h => by
    have hne : S.Nonempty := by
      by_contra h'
      rw [Set.not_nonempty_iff_eq_empty] at h'
      exact h (by rw [nth_zero, h', sSup_empty])
    exact hne.csSup_mem hS
  | k + 1, h => (nth_succ_spec hS k h).1

/-- A value of the set at least the `k`-th is one of the first `k + 1`. -/
theorem eq_nth_of_ge {A : Set α} {x : α} (hx : x ∈ A) : ∀ k, nth A k ≤ x → ∃ i ≤ k, nth A i = x
  | 0, h => ⟨0, le_rfl, le_antisymm h (le_sSup hx)⟩
  | k + 1, h => by
    rcases lt_or_ge x (nth A k) with hlt | hge
    · exact ⟨k + 1, le_rfl, le_antisymm h (le_nth_succ hx hlt)⟩
    · obtain ⟨i, hi, e⟩ := eq_nth_of_ge hx k hge
      exact ⟨i, by omega, e⟩

/-- MERGING. If `T` takes its values from the finite set `S` (or is at the bottom) and has the first `K` of `S`'s, then
    its first `K` are those. -/
theorem nth_eq_of_has {S T : Set α} (hS : S.Finite) (hsub : ∀ x ∈ T, x ∈ S ∨ x = ⊥) {K : ℕ}
    (hhas : ∀ j < K, nth S j ∈ T ∨ nth S j = ⊥) : ∀ k < K, nth T k = nth S k
  | 0, hk => le_antisymm (nth_mono_bot hsub 0) ((hhas 0 hk).elim (fun h => le_sSup h) fun h => h ▸ bot_le)
  | k + 1, hk => by
    refine le_antisymm (nth_mono_bot hsub _) ?_
    rcases hhas (k + 1) hk with h | h
    · rcases eq_or_ne (nth S (k + 1)) ⊥ with e | e
      · rw [e]; exact bot_le
      · exact le_nth_succ h ((nth_eq_of_has hS hsub hhas k (by omega)).symm ▸ (nth_succ_spec hS k e).2)
    · rw [h]; exact bot_le

/-- So the first `K` of a union of two finite parts are the first `K` of the two parts' first `K`. -/
theorem nth_union {A B : Set α} (hA : A.Finite) (hB : B.Finite) {K : ℕ} {T : Set α}
    (hT : ∀ x, x ∈ T ↔ (∃ i < K, x = nth A i) ∨ ∃ i < K, x = nth B i) : ∀ k < K, nth T k = nth (A ∪ B) k := by
  refine nth_eq_of_has (hA.union hB) (fun x hx => ?_) fun j hj => ?_
  · rcases (hT x).mp hx with ⟨i, -, rfl⟩ | ⟨i, -, rfl⟩
    · by_cases h : nth A i = ⊥
      · exact .inr h
      · exact .inl (.inl (nth_mem hA i h))
    · by_cases h : nth B i = ⊥
      · exact .inr h
      · exact .inl (.inr (nth_mem hB i h))
  · by_cases h : nth (A ∪ B) j = ⊥
    · exact .inr h
    · left
      rcases nth_mem (hA.union hB) j h with hm | hm
      · obtain ⟨i, hi, e⟩ := eq_nth_of_ge hm j (nth_mono Set.subset_union_left j)
        exact (hT _).mpr (.inl ⟨i, by omega, e.symm⟩)
      · obtain ⟨i, hi, e⟩ := eq_nth_of_ge hm j (nth_mono Set.subset_union_right j)
        exact (hT _).mpr (.inr ⟨i, by omega, e.symm⟩)

/-! ## Striking out the maximum -/

variable {ι : Type}

/-- Every place that holds the maximum is put to the bottom. -/
noncomputable def strike (f : ι → α) : ι → α := fun i => if f i = ⨆ j, f j then ⊥ else f i

/-- After `k + 1` strikes the places less than the `k`-th value are as they were, and the others are at the bottom. -/
theorem strike_iterate (f : ι → α) : ∀ (k : ℕ) (i : ι), strike^[k + 1] f i = if f i < nth (Set.range f) k then f i else ⊥
  | 0, i => by
    show strike f i = _
    unfold strike
    rw [nth_zero, sSup_range]
    have h : f i ≤ ⨆ j, f j := le_iSup f i
    rcases h.eq_or_lt with e | e
    · rw [if_pos e, if_neg (by rw [← e]; exact lt_irrefl _)]
    · rw [if_neg e.ne, if_pos e]
  | k + 1, i => by
    rw [Function.iterate_succ_apply']
    have hsup : (⨆ j, strike^[k + 1] f j) = nth (Set.range f) (k + 1) := by
      simp only [strike_iterate f k]
      refine le_antisymm (iSup_le fun j => ?_) (sSup_le ?_)
      · split_ifs with h
        · exact le_nth_succ ⟨j, rfl⟩ h
        · exact bot_le
      · rintro x ⟨⟨j, rfl⟩, h⟩
        exact le_iSup_of_le j (by rw [if_pos h])
    show (if strike^[k + 1] f i = ⨆ j, strike^[k + 1] f j then ⊥ else strike^[k + 1] f i) = _
    rw [hsup, strike_iterate f k i]
    by_cases h : f i < nth (Set.range f) k
    · rw [if_pos h]
      have hle : f i ≤ nth (Set.range f) (k + 1) := le_nth_succ ⟨i, rfl⟩ h
      rcases hle.eq_or_lt with e | e
      · rw [if_pos e, if_neg (by rw [← e]; exact lt_irrefl _)]
      · rw [if_neg e.ne, if_pos e]
    · rw [if_neg h, ite_self, if_neg (fun h' => h (h'.trans_le (nth_succ_le _ _)))]

/-- STRIKING. The maximum after `k` strikes is the `k`-th value. -/
theorem iSup_strike (f : ι → α) (k : ℕ) : (⨆ i, strike^[k] f i) = nth (Set.range f) k := by
  cases k with
  | zero => exact sSup_range.symm
  | succ k =>
    simp only [strike_iterate f k]
    refine le_antisymm (iSup_le fun j => ?_) (sSup_le ?_)
    · split_ifs with h
      · exact le_nth_succ ⟨j, rfl⟩ h
      · exact bot_le
    · rintro x ⟨⟨j, rfl⟩, h⟩
      exact le_iSup_of_le j (by rw [if_pos h])

/-! ## Sorting -/

/-- SORTING. In a decreasing list of all of a set's values, the places up to which it strictly decreases hold the set's
    distinct values in order. -/
theorem nth_of_sorted {n : ℕ} (g : Fin n → α) (hg : Antitone g) :
    ∀ (k : ℕ) (hk : k < n), (∀ j (hj : j < k), g ⟨j + 1, by omega⟩ < g ⟨j, by omega⟩) → nth (Set.range g) k = g ⟨k, hk⟩
  | 0, hk, _ => le_antisymm (sSup_le (by rintro x ⟨i, rfl⟩; exact hg (Fin.mk_le_of_le_val (Nat.zero_le _)))) (le_sSup ⟨_, rfl⟩)
  | k + 1, hk, hs => by
    rw [nth_succ, nth_of_sorted g hg k (by omega) fun j hj => hs j (by omega)]
    refine le_antisymm (sSup_le ?_) (le_sSup ⟨⟨_, rfl⟩, hs k (by omega)⟩)
    rintro x ⟨⟨i, rfl⟩, h⟩
    refine hg (Fin.mk_le_of_le_val ?_)
    by_contra hi
    exact absurd h (not_lt.mpr (hg (show i ≤ ⟨k, by omega⟩ from Fin.le_def.mpr (show i.val ≤ k by omega))))

end Cert.Distinct
-- ==== Proof.Rounds.lean ====
/-
Rounds of taking each row's maximum and striking it out, read over the reals.

One round takes the maximum of every row of a 256 × n array and puts minus infinity wherever a row holds its maximum.
Over the extended reals the maximum of a row after `k` rounds is the row's `k`-th greatest value, repetitions not
counted (`Cert.Distinct.nth`). Width and format are left open: the kernel runs the rounds on its block and again on two
tables side by side.
-/
module

public import proofs.«01_k».proof.Proof.Distinct
public import Idealize.ShloMosaic.PureOps.Ideal.Laws
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Pipeline.Value

@[expose] public section

noncomputable section

namespace Cert.Rounds

open Idealize.ShloMosaic Idealize.ShloMosaic.ValueIdx

/-- 256 rows of `n`; a column of 256. -/
abbrev Rows (n : ℕ) : Shape := ⟨2, ![256, n]⟩
abbrev Col : Shape := ⟨1, ![256]⟩

/-- What the operations of a round ask of the shapes and the format. -/
structure Fits (φ : FTy) (acc : BitVec φ.bits) (n : ℕ) : Prop where
  reduces : (Rows n).Reduces [1] Col
  casts : Col.ShapeCasts (Rows 1)
  spreads : (Rows 1).Broadcasts (Rows n)
  format : FKind.Formats φ
  neutral : acc = FKind.maximumf.neutral φ format

section
variable {F : FTy → Type} [FloatOps F] {φ : FTy} {acc : BitVec φ.bits} {n : ℕ}

/-- The maximum of every row, as a column. -/
def peak (h : Fits φ acc n) (w : FVec F (Rows n) φ) : FVec F (Rows 1) φ :=
  shapeCast (Rows 1) (multiReduction .maximumf [1] Col w acc h.reduces h.format h.neutral) h.casts

/-- The array with `b` wherever a row holds its maximum. -/
def struck (h : Fits φ acc n) (b : F φ) (w : FVec F (Rows n) φ) : FVec F (Rows n) φ :=
  select (cmpf .oeq w (broadcastTo (Rows n) (peak h w) h.spreads)) (broadcast (Rows n) b) w

end

/-- One row of an array. -/
def row {α : Type} {n : ℕ} (w : (Rows n).Idx → α) (r : Fin 256) : Fin n → α := fun j => w (ix2 r j)

variable {φ : FTy} {acc : BitVec φ.bits} {n : ℕ}

/-- A column spread over `n` columns reads, at row `r`, the column at row `r`. -/
theorem spread_apply {α : Type} (v : (Rows 1).Idx → α) (h : (Rows 1).Broadcasts (Rows n)) (r : Fin 256) (j : Fin n) :
    broadcastTo (Rows n) v h (ix2 r j) = v (ix2 r 0) :=
  broadcastTo_apply v h _ _ fun a => by
    match a with
    | ⟨0, _⟩ => rfl
    | ⟨1, _⟩ => rfl

/-- The maximum of a row is the supremum of its values. -/
theorem peak_apply (h : Fits φ acc n) (hacc : Ideal.ofBits φ acc = ⊥) (w : FVec Ideal (Rows n) φ) (r : Fin 256) (u : Fin 1) :
    peak h w (ix2 r u) = ⨆ j, row w r j := by
  unfold peak
  rw [shapeCast_a_a1_apply, Ideal.multiReduction_maximumf_single]
  have e : w ∘ h.reduces.lift (ix1 r) = row w r := by
    funext j
    exact congrArg w (funext fun a => by match a with | ⟨0, _⟩ => rfl | ⟨1, _⟩ => rfl)
  refine (congrArg (fun f => Finset.fold max (Ideal.ofBits φ acc) f Finset.univ) e).trans ?_
  rw [hacc]
  exact Finset.sup_univ_eq_iSup (row w r)

/-- Striking a row puts the bottom wherever it holds its supremum. -/
theorem row_struck (h : Fits φ acc n) (hacc : Ideal.ofBits φ acc = ⊥) (w : FVec Ideal (Rows n) φ) (r : Fin 256) :
    row (struck h (⊥ : EReal) w) r = Distinct.strike (row w r) := by
  funext j
  show Scalar.select (Ideal.cmp .oeq (w (ix2 r j)) (broadcastTo (Rows n) (peak h w) h.spreads (ix2 r j))) ⊥ (w (ix2 r j))
    = if row w r j = ⨆ i, row w r i then ⊥ else row w r j
  rw [spread_apply, peak_apply h hacc]
  by_cases e : w (ix2 r j) = ⨆ i, row w r i
  · rw [if_pos (show row w r j = _ from e)]
    simp only [Ideal.cmp, decide_eq_true e]
    rfl
  · rw [if_neg (show ¬row w r j = _ from e)]
    simp only [Ideal.cmp, decide_eq_false e]
    rfl

theorem row_struck_iterate (h : Fits φ acc n) (hacc : Ideal.ofBits φ acc = ⊥) (w : FVec Ideal (Rows n) φ) (r : Fin 256) :
    ∀ k, row ((struck (F := Ideal) h (⊥ : EReal))^[k] w) r = Distinct.strike^[k] (row w r)
  | 0 => rfl
  | k + 1 => by
    rw [Function.iterate_succ_apply', Function.iterate_succ_apply', row_struck h hacc, row_struck_iterate h hacc w r k]

/-- ROUNDS. The maximum of a row after `k` rounds is its `k`-th greatest value, repetitions not counted. -/
theorem peak_struck (h : Fits φ acc n) (hacc : Ideal.ofBits φ acc = ⊥) (w : FVec Ideal (Rows n) φ) (r : Fin 256) (u : Fin 1) (k : ℕ) :
    peak h ((struck (F := Ideal) h (⊥ : EReal))^[k] w) (ix2 r u) = Distinct.nth (Set.range (row w r)) k := by
  rw [peak_apply h hacc, row_struck_iterate h hacc]
  exact Distinct.iSup_strike _ _

/-- Eight columns side by side read, at column `k`, the `k`-th of them. -/
theorem columns_apply {α : Type} (f : Fin 8 → ((Rows 1).Idx → α))
    (h : Shape.Concatenates ((List.ofFn fun k : Fin 8 => (⟨Rows 1, f k⟩ : (s : Shape) × (s.Idx → α))).map (·.1)) (Rows 8) 1)
    (r : Fin 256) (k : Fin 8) :
    concatenate (Rows 8) 1 (List.ofFn fun k : Fin 8 => (⟨Rows 1, f k⟩ : (s : Shape) × (s.Idx → α))) h (ix2 r k) = f k (ix2 r 0) :=
  concatenate_ofFn_unit_apply (t := Rows 8) 1 f h rfl rfl (ix2 r k) k rfl (ix2 r 0) fun b hb => by
    match b with
    | ⟨0, _⟩ => rfl
    | ⟨1, _⟩ => exact absurd rfl hb

/-- Two tables of eight columns side by side hold, in each row, what the two rows hold. -/
theorem row_beside {α : Type} (a b : (Rows 8).Idx → α) (h : Shape.Concatenates [Rows 8, Rows 8] (Rows 16) 1) (r : Fin 256) :
    Set.range (row (concatenate (Rows 16) 1 [⟨Rows 8, a⟩, ⟨Rows 8, b⟩] h) r) = Set.range (row a r) ∪ Set.range (row b r) := by
  have hl : ∀ k : Fin 8, row (concatenate (Rows 16) 1 [⟨Rows 8, a⟩, ⟨Rows 8, b⟩] h) r ⟨k.val, by omega⟩ = row a r k := fun k =>
    concatenate_pair_apply_left (t := Rows 16) 1 a b h _ rfl (ix2 r k) fun x => by
      match x with
      | ⟨0, _⟩ => rfl
      | ⟨1, _⟩ => rfl
  have hr : ∀ k : Fin 8, row (concatenate (Rows 16) 1 [⟨Rows 8, a⟩, ⟨Rows 8, b⟩] h) r ⟨8 + k.val, by omega⟩ = row b r k := fun k =>
    concatenate_pair_apply_right (t := Rows 16) 1 a b h _ rfl rfl (ix2 r k)
      (fun x hx => by
        match x with
        | ⟨0, _⟩ => rfl
        | ⟨1, _⟩ => exact absurd rfl hx) (Nat.add_comm _ _)
  ext x
  constructor
  · rintro ⟨j, rfl⟩
    by_cases hj : j.val < 8
    · exact .inl ⟨⟨j.val, hj⟩, (hl ⟨j.val, hj⟩).symm⟩
    · refine .inr ⟨⟨j.val - 8, by omega⟩, (hr ⟨j.val - 8, by omega⟩).symm.trans (congrArg _ (Fin.ext ?_))⟩
      show 8 + (j.val - 8) = j.val
      omega
  · rintro (⟨k, rfl⟩ | ⟨k, rfl⟩)
    · exact ⟨_, hl k⟩
    · exact ⟨_, hr k⟩

end Cert.Rounds
-- ==== Proof.Tables.lean ====
/-
What the kernel computes on a device, read over the reals.

The table a device makes of its block holds, in row `r` and column `k`, the `k`-th greatest value of row `r` of the block,
repetitions not counted; the result holds the same of the rows of the two blocks together.
-/
module

public import proofs.«01_k».proof.Proof.Slots
public import proofs.«01_k».proof.Proof.Rounds

@[expose] public section

noncomputable section

namespace Cert.Swap

open Cert.KernelIdeal Cert.KernelIdeal.Gen
open Idealize.ShloMosaic Idealize.ShloMosaic.ValueIdx
open Cert.Rounds

theorem fits_block : Fits .bf16 (0xFF80#16 : BitVec 16) 1024 :=
  ⟨reduces_S256x1024_S256, shapeCasts_S256_S256x1, broadcasts_S256x1_S256x1024, .inr rfl, rfl⟩

theorem fits_both : Fits .bf16 (0xFF80#16 : BitVec 16) 16 :=
  ⟨reduces_S256x16_S256, shapeCasts_S256_S256x1, broadcasts_S256x1_S256x16, .inr rfl, rfl⟩

/-- The pattern of minus infinity is the bottom in both formats. -/
theorem bf16_bot : Ideal.ofBits .bf16 (0xFF80#16 : BitVec 16) = ⊥ := by simp [Ideal.ofBits, Ideal.ieee]
theorem f32_bot : Ideal.ofBits .f32 (0xFF800000#32 : BitVec 32) = ⊥ := by simp [Ideal.ofBits, Ideal.ieee]

section
variable {F : FTy → Type} [FloatOps F]

/-- What the kernel puts in place of a maximum. -/
def fill : F .bf16 := Scalar.truncf .bf16 bitsLt_bf16_f32 (Scalar.ofBits .f32 0xFF800000#32)

/-- The table of a block is the maxima of its eight rounds side by side. -/
theorem tableOf_columns (x : FVec F S256x1024 .f32) :
    tableOf x = concatenate S256x8 1 (List.ofFn fun k : Fin 8 =>
        (⟨S256x1, peak fits_block ((struck fits_block fill)^[k.val]
          (truncf .bf16 (shapeCast S256x1024 x shapeCasts_S256x1024_S256x1024) bitsLt_bf16_f32))⟩ : (s : Shape) × (s.Idx → F .bf16)))
      concatenates_S256x1_S256x1_S256x1_S256x1_S256x1_S256x1_S256x1_S256x1_S256x8_d1 := rfl

/-- So is the result, of the two tables side by side. -/
theorem mergeOf_columns (mine theirs : FVec F S256x8 .bf16) :
    mergeOf mine theirs = extf .f32 (concatenate S256x8 1 (List.ofFn fun k : Fin 8 =>
        (⟨S256x1, peak fits_both ((struck fits_both fill)^[k.val] (bothOf mine theirs))⟩ : (s : Shape) × (s.Idx → F .bf16)))
      concatenates_S256x1_S256x1_S256x1_S256x1_S256x1_S256x1_S256x1_S256x1_S256x8_d1) bitsLt_bf16_f32 := rfl

end

theorem fill_bot : (fill : Ideal .bf16) = (⊥ : EReal) := f32_bot

/-- THE TABLE. -/
theorem tableOf_apply (x : FVec Ideal S256x1024 .f32) (r : Fin 256) (k : Fin 8) :
    tableOf x (ix2 r k) = Distinct.nth (Set.range (row x r)) k.val := by
  rw [tableOf_columns]
  refine (columns_apply _ _ r k).trans ?_
  rw [fill_bot, peak_struck fits_block bf16_bot, shapeCast_self]
  rfl

/-- THE RESULT: of the values the two blocks hold in a row, the `k`-th greatest, repetitions not counted. -/
theorem mergeOf_apply (x y : FVec Ideal S256x1024 .f32) (r : Fin 256) (k : Fin 8) :
    mergeOf (tableOf x) (tableOf y) (ix2 r k)
      = Distinct.nth (Set.range (row x r) ∪ Set.range (row y r)) k.val := by
  rw [mergeOf_columns, extf_apply]
  refine (columns_apply _ _ r k).trans ?_
  rw [fill_bot, peak_struck fits_both bf16_bot]
  refine Distinct.nth_union (Set.finite_range _) (Set.finite_range _) (K := 8) (fun v => ?_) k.val k.isLt
  rw [bothOf, row_beside]
  have h : ∀ z : FVec Ideal S256x1024 .f32, v ∈ Set.range (row (tableOf z) r) ↔ ∃ i < 8, v = Distinct.nth (Set.range (row z r)) i := fun z =>
    ⟨fun ⟨i, e⟩ => ⟨i.val, i.isLt, e.symm.trans (tableOf_apply z r i)⟩, fun ⟨i, hi, e⟩ => ⟨⟨i, hi⟩, (tableOf_apply z r ⟨i, hi⟩).trans e.symm⟩⟩
  exact or_congr (h x) (h y)

end Cert.Swap
-- ==== Proof.Blocks.lean ====
/-
A row of the whole argument is its two halves: a device holds one, its partner the other.
-/
module

public import proofs.«01_k».proof.Proof.Exchange
public import proofs.«01_k».proof.Proof.Rounds
public import Idealize.ShloMosaic.Lib.Layout

@[expose] public section

noncomputable section

namespace Cert.Swap

open Cert.KernelIdeal
open Idealize.ShloMosaic Idealize.ShloMosaic.ValueIdx
open Cert.Rounds

variable {α : Type}

/-- The block of the whole argument that a device holds. -/
abbrev half (X : (Rows 2048).Idx → α) (c : Dev nD) : (Rows 1024).Idx → α :=
  Layout.blockN ⟨2, ![256, 1024]⟩ ⟨2, ![256, 2048]⟩ (Layout.meshBlock [2, 2, 2] ![[], [0]] c) X

/-- A row of it is the half of the row that the device's first mesh coordinate names. -/
theorem row_half (X : (Rows 2048).Idx → α) (c : Dev nD) (r : Fin 256) (j : Fin 1024) :
    row (half X c) r j = row X r ⟨c.val / 4 * 1024 + j.val, by have := c.isLt; have : c.val < 8 := this; omega⟩ := by
  have h : ∀ c : Dev nD, Layout.meshLin [2, 2, 2] c.val [] = 0 ∧ Layout.meshLin [2, 2, 2] c.val [0] = c.val / 4 := by decide
  refine congrArg X (funext fun a => Fin.ext ?_)
  match a with
  | ⟨0, _⟩ =>
    show Layout.meshLin [2, 2, 2] c.val [] * 256 + r.val = r.val
    rw [(h c).1]; omega
  | ⟨1, _⟩ =>
    show Layout.meshLin [2, 2, 2] c.val [0] * 1024 + j.val = _
    rw [(h c).2]

/-- A device's row and its partner's hold together what the row of the whole argument holds. -/
theorem half_union (X : (Rows 2048).Idx → α) (c : Dev nD) (r : Fin 256) :
    Set.range (row (half X c) r) ∪ Set.range (row (half X (mate c)) r) = Set.range (row X r) := by
  have hm : c.val < 8 ∧ (mate c).val / 4 = 1 - c.val / 4 := ⟨c.isLt, by revert c; decide⟩
  ext v
  constructor
  · rintro (⟨j, rfl⟩ | ⟨j, rfl⟩)
    · exact ⟨_, (row_half X c r j).symm⟩
    · exact ⟨_, (row_half X (mate c) r j).symm⟩
  · rintro ⟨j, rfl⟩
    by_cases hj : j.val / 1024 = c.val / 4
    · exact .inl ⟨⟨j.val % 1024, by omega⟩, (row_half X c r _).trans (congrArg _ (Fin.ext (by
        show c.val / 4 * 1024 + j.val % 1024 = j.val
        omega)))⟩
    · exact .inr ⟨⟨j.val % 1024, by omega⟩, (row_half X (mate c) r _).trans (congrArg _ (Fin.ext (by
        show (mate c).val / 4 * 1024 + j.val % 1024 = j.val
        omega)))⟩

end Cert.Swap
-- ==== Proof.Sorted.lean ====
/-
The sorts of the reference and of the mask, read over the reals.

Both sort the negated rows increasingly: the mask the values alone, the reference the values with their positions. Their
comparators come to "less than", so the two sorts put a row in the same order (`order`). Read through that order a row of
the argument decreases, and as far as it decreases strictly it holds its distinct values. The mask says how far that is.
-/
module

public import proofs.«01_k».proof.Proof.Rounds
public import proofs.«01_k».proof.Proof.Gen.ReferenceIdeal
public import proofs.«01_k».proof.Proof.Gen.On_distinct_so_far
public import Idealize.ShloMosaic.Lib.SortFacts
public import Idealize.ShloMosaic.Lib.IdealHost

@[expose] public section

noncomputable section

namespace Cert.Sorted

open Idealize.ShloMosaic Idealize.ShloMosaic.ValueIdx
open Cert.Rounds

/-! ## The order of a row -/

/-- The positions of a list of values in increasing order of the values, equal ones as they come. -/
def order {n : ℕ} (v : Fin n → EReal) : Fin n → Fin n := sortedFrom fun a b => decide (v a < v b)

/-- Read through its order a list increases. -/
theorem order_monotone {n : ℕ} (v : Fin n → EReal) : Monotone (v ∘ order v) := by
  intro i j hij
  rcases hij.eq_or_lt with rfl | h
  · exact le_rfl
  · have := sortedFrom_noInversion (fun a b => decide (v a < v b)) (fun a b => decide (v a < v b))
      (fun a b hab => decide_eq_false (of_decide_eq_true hab).asymm) (fun _ _ h => h)
      (fun a b c hab hbc => decide_eq_false (not_lt.mpr
        ((not_lt.mp (of_decide_eq_false hbc)).trans (not_lt.mp (of_decide_eq_false hab))))) i j h
    exact not_lt.mp (of_decide_eq_false this)

/-- As far as the negated values increase strictly in their order, the values there are the distinct ones in
    decreasing order. -/
theorem nth_of_order {n : ℕ} (f : Fin n → EReal) (k : ℕ) (hk : k < n)
    (hs : ∀ j (hj : j < k), -f (order (fun i => -f i) ⟨j, by omega⟩) < -f (order (fun i => -f i) ⟨j + 1, by omega⟩)) :
    Distinct.nth (Set.range f) k = f (order (fun i => -f i) ⟨k, hk⟩) := by
  have hr : Set.range f = Set.range (f ∘ order fun i => -f i) := ((sortedFrom_surjective _).range_comp f).symm
  rw [hr]
  exact Distinct.nth_of_sorted _ (fun i j hij => EReal.neg_le_neg_iff.mp (order_monotone (fun i => -f i) hij)) k hk
    fun j hj => EReal.neg_lt_neg_iff.mp (hs j hj)

/-! ## The two comparators -/

/-- The pattern of zero is zero. -/
theorem f32_zero : Ideal.ofBits .f32 (0x00000000#32 : BitVec 32) = 0 := by simp [Ideal.ofBits, Ideal.ieee]

/-- Zero written for zero changes nothing, and no value differs from itself. -/
theorem normal_form (x : EReal) :
    Scalar.select (Ideal.cmp .une x x) (Ideal.ofBits .f32 (0x7FC00000#32 : BitVec 32))
      (Scalar.select (Ideal.cmp .oeq x (Ideal.ofBits .f32 (0x00000000#32 : BitVec 32))) (Ideal.ofBits .f32 (0x00000000#32 : BitVec 32)) x) = x := by
  have h : Ideal.cmp .une x x = 0#1 := by simp [Ideal.cmp]
  rw [h, select_zero, f32_zero]
  by_cases e : x = 0
  · subst e
    rw [show Ideal.cmp .oeq (0 : EReal) 0 = 1#1 by simp [Ideal.cmp], select_one]
  · rw [show Ideal.cmp .oeq x 0 = 0#1 by simp [Ideal.cmp, e], select_zero]

theorem mask_comparator (l r : EReal) :
    Cert.On_distinct_so_far.comparator_f32_d1 (F := Ideal) l r = Ideal.cmp .olt l r :=
  congrArg₂ (Ideal.cmp .olt) (normal_form l) (normal_form r)

theorem reference_comparator (l r : EReal × BitVec 32) :
    Cert.ReferenceIdeal.comparator_f32_i32_d1 (F := Ideal) l r = Ideal.cmp .olt l.1 r.1 :=
  congrArg₂ (Ideal.cmp .olt) (normal_form l.1) (normal_form r.1)

theorem olt_beq (x y : EReal) : (Ideal.cmp .olt x y == 1#1) = decide (x < y) := by
  by_cases h : x < y <;> simp [Ideal.cmp, h]

/-! ## The two sorts -/

/-- A place of a row with its column replaced. -/
theorem along_column {n : ℕ} (r : Fin 256) (j k : Fin n) : Shape.Idx.along (s := Rows n) (ix2 r j) 1 k = ix2 r k := by
  funext a
  match a with
  | ⟨0, _⟩ => rfl
  | ⟨1, _⟩ => rfl

/-- Rows sorted by a comparator that comes to "less than" on the values `v` of row `r`: whatever is carried along is read
    through the order of `v`. -/
theorem sortBy_apply {n : ℕ} {ι α : Type} (cmp : ι → ι → BitVec 1) (rows : (Rows n).Idx → ι) (x : (Rows n).Idx → α)
    (v : Fin n → EReal) (r : Fin 256) (hv : ∀ k k' : Fin n, (cmp (rows (ix2 r k)) (rows (ix2 r k')) == 1#1) = decide (v k < v k'))
    (j : Fin n) : Host.sortBy (Rows n) 1 cmp rows x (ix2 r j) = x (ix2 r (order v j)) := by
  have hb : (fun k k' : Fin n => cmp (rows (Shape.Idx.along (s := Rows n) (ix2 r j) 1 k))
      (rows (Shape.Idx.along (s := Rows n) (ix2 r j) 1 k')) == 1#1) = fun a b => decide (v a < v b) := by
    funext k k'
    rw [along_column, along_column, hv]
  refine (congrArg x (along_column r j (sortedFrom (fun k k' : Fin n => cmp (rows (Shape.Idx.along (s := Rows n) (ix2 r j) 1 k))
    (rows (Shape.Idx.along (s := Rows n) (ix2 r j) 1 k')) == 1#1) j))).trans ?_
  rw [hb]
  rfl

theorem mask_sort_apply (g : FVec Ideal (Rows 2048) .f32) (r : Fin 256) (j : Fin 2048) :
    Cert.On_distinct_so_far.fn_sort g (ix2 r j) = g (ix2 r (order (row g r) j)) :=
  sortBy_apply Cert.On_distinct_so_far.comparator_f32_d1 g g (row g r) r
    (fun k k' => by rw [mask_comparator]; exact olt_beq _ _) j

/-- Pairs sorted by a comparator that comes to "less than" on their first components. -/
theorem sort2_apply {n : ℕ} {β : Type} (cmp : EReal × β → EReal × β → BitVec 1) (hcmp : ∀ l r, cmp l r = Ideal.cmp .olt l.1 r.1)
    (g : (Rows n).Idx → EReal) (y : (Rows n).Idx → β) (r : Fin 256) (j : Fin n) :
    (Host.sort2 (Rows n) 1 cmp g y).2 (ix2 r j) = y (ix2 r (order (row g r) j)) := by
  rw [Host.sort2_eq_sortBy]
  exact sortBy_apply cmp (fun i => (g i, y i)) y (row g r) r (fun k k' => by rw [hcmp]; exact olt_beq _ _) j

theorem reference_sort_apply (g : FVec Ideal (Rows 2048) .f32) (r : Fin 256) (j : Fin 2048) :
    (Host.sort2 (Rows 2048) 1 (Cert.ReferenceIdeal.comparator_f32_i32_d1 (F := Ideal)) g (iotaInDim (Rows 2048) 32 1)).2 (ix2 r j)
      = BitVec.ofNat 32 (order (row g r) j).val :=
  sort2_apply (Cert.ReferenceIdeal.comparator_f32_i32_d1 (F := Ideal)) reference_comparator g (iotaInDim (Rows 2048) 32 1) r j

/-! ## The mask -/

section
variable [Cert.On_distinct_so_far.Facts]

/-- One column of an array. -/
def column (w : FVec Ideal (Rows 2048) .f32) (o : ℕ) (h : o < 2048) : FVec Ideal (Rows 1) .f32 :=
  extractStridedSlice (Rows 1) ![0, o] w ⟨rfl, fun a => by
    match a with
    | ⟨0, _⟩ => exact le_rfl
    | ⟨1, _⟩ => exact h⟩

theorem column_apply (w : FVec Ideal (Rows 2048) .f32) (o : ℕ) (h : o < 2048) (r : Fin 256) :
    column w o h (ix2 r 0) = w (ix2 r ⟨o, h⟩) :=
  slice2_axis1_apply o w _ r 0 ⟨o, h⟩ rfl

/-- The mask's columns one after another: each is the one before and the comparison of two neighbouring columns. -/
def chain (w : FVec Ideal (Rows 2048) .f32) : (k : ℕ) → k < 2048 → IVec (Rows 1) 1
  | 0, _ => broadcastInDim (Rows 1) ![] Cert.On_distinct_so_far.Facts.bcast_S_S256x1 (constantI ⟨0, ![]⟩ 1 1#1)
  | k + 1, h => andi (chain w k (by omega)) (cmpf .olt (column w k (by omega)) (column w (k + 1) h))

theorem chain_strict (w : FVec Ideal (Rows 2048) .f32) (r : Fin 256) : ∀ (k : ℕ) (h : k < 2048), chain w k h (ix2 r 0) = 1#1 →
    ∀ j (hj : j < k), w (ix2 r ⟨j, by omega⟩) < w (ix2 r ⟨j + 1, by omega⟩)
  | 0, _, _, j, hj => absurd hj (Nat.not_lt_zero j)
  | k + 1, h, e, j, hj => by
    have e' : IntOp.andi (chain w k (by omega) (ix2 r 0))
        (Ideal.cmp .olt (column w k (by omega) (ix2 r 0)) (column w (k + 1) h (ix2 r 0))) = 1#1 := e
    rw [column_apply, column_apply] at e'
    have hb : ∀ a b : BitVec 1, IntOp.andi a b = 1#1 → a = 1#1 ∧ b = 1#1 := by decide
    obtain ⟨e1, e2⟩ := hb _ _ e'
    rcases Nat.lt_succ_iff_lt_or_eq.mp hj with hlt | rfl
    · exact chain_strict w r k _ e1 j hlt
    · by_contra hn
      simp [Ideal.cmp, hn] at e2

theorem mask_columns (x : FVec Ideal (Rows 2048) .f32) :
    Cert.On_distinct_so_far.fn (F := Ideal) x = concatenate (Rows 8) 1 (List.ofFn fun k : Fin 8 =>
        (⟨Rows 1, chain (Cert.On_distinct_so_far.fn_sort (Host.negf x)) k.val (by omega)⟩ : (s : Shape) × (s.Idx → BitVec 1)))
      Cert.On_distinct_so_far.Facts.concatenates_S256x1_S256x1_S256x1_S256x1_S256x1_S256x1_S256x1_S256x1_S256x8_d1 := rfl

/-- THE MASK. Where it is set in row `r` and column `k`, the `k`-th greatest value of the row, repetitions not counted, is
    the one in place `k` of the sorted row. -/
theorem mask_spec (x : FVec Ideal (Rows 2048) .f32) (r : Fin 256) (k : Fin 8)
    (h : Cert.On_distinct_so_far.fn (F := Ideal) x (ix2 r k) = 1#1) :
    Distinct.nth (Set.range (row x r)) k.val = x (ix2 r (order (row (Host.negf x) r) ⟨k.val, by omega⟩)) := by
  rw [mask_columns] at h
  have h' := chain_strict _ r k.val (by omega) ((columns_apply _ _ r k).symm.trans h)
  refine nth_of_order (row x r) k.val (by omega) fun j hj => ?_
  have := h' j hj
  rw [mask_sort_apply, mask_sort_apply] at this
  exact this

end

end Cert.Sorted
-- ==== Proof.Reference.lean ====
/-
The reference's result, read over the reals.

The reference takes from every row the values at the first eight positions of the row's sorted order. Here the operations
after the sort (bringing a negative position into range, asking whether it is in range, the gather) are read at one place;
positions that are in range go through them unchanged.
-/
module

public import proofs.«01_k».proof.Proof.Sorted
public import proofs.«01_k».proof.Proof.Gen.ReferenceIdeal.Run
public import Idealize.ShloMosaic.Lib.ReduceAll

@[expose] public section

noncomputable section

namespace Cert.Reference

open Cert.ReferenceIdeal Cert.ReferenceIdeal.Facts₀
open Idealize.ShloMosaic Idealize.ShloMosaic.ValueIdx
open Cert.Rounds

variable {F : FTy → Type} [FloatOps F]

/-- The positions the reference takes: of the sorted negated rows, the first eight columns. -/
def positions (x : FVec F S256x2048 .f32) : IVec S256x8 32 :=
  extractStridedSlice S256x8 ![0, 0] (Host.sort2 S256x2048 1 comparator_f32_i32_d1 (Host.negf x) (iotaInDim S256x2048 32 1)).2
    slices_S256x2048_S256x8_0_0

/-- A position less than zero counted from the end of the row, as an array of one-element lists. -/
def wrapped (J : IVec S256x8 32) : IVec S256x8x1 32 :=
  shapeCast S256x8x1 (select (cmpi .slt J (broadcastInDim S256x8 ![] bcast_S_S256x8 (constantI S_ 32 0#32)))
    (addi J (broadcastInDim S256x8 ![] bcast_S_S256x8 (constantI S_ 32 2048#32))) J) shapeCasts_S256x8_S256x8x1

/-- Whether a position lies in the row. -/
def inside (I : IVec S256x8x1 32) : IVec S256x8 1 :=
  Host.reduce IntOp.andi (andi (cmpi .sge I (broadcastInDim S256x8x1 ![] bcast_S_S256x8x1 (constantI S_ 32 0#32)))
    (cmpi .sle I (broadcastInDim S256x8x1 ![0, 1, 2] bcast_S1x1x1_S256x8x1_0_1_2
      (broadcastInDim S1x1x1 ![2] bcast_S1_S1x1x1_2 (constantI S1 32 2047#32)))))
    (constantI S_ 1 1#1) reducesTo_S256x8x1_S256x8_d2 h_S_

/-- The reference's result. -/
def answer (x : FVec F S256x2048 .f32) : FVec F S256x8 .f32 :=
  select (inside (wrapped (positions x)))
    (Host.gather gather_S256x2048_S256x8x1_S256x8_n_1_0_0_1_2_11 x (wrapped (positions x)))
    (broadcastInDim S256x8 ![] bcast_S_S256x8 (constant S_ .f32 0x7FC00000#32))

/-- A word below 2048 is not negative and in range. -/
theorem word_checks (p : ℕ) (hp : p < 2048) :
    IntOp.cmpi .slt (BitVec.ofNat 32 p) 0#32 = 0#1 ∧ IntOp.cmpi .sge (BitVec.ofNat 32 p) 0#32 = 1#1
      ∧ IntOp.cmpi .sle (BitVec.ofNat 32 p) 2047#32 = 1#1 ∧ (BitVec.ofNat 32 p).toInt.toNat = p := by
  have ht : (BitVec.ofNat 32 p).toInt = (p : ℤ) := by
    rw [BitVec.toInt_eq_toNat_cond, BitVec.toNat_ofNat, Nat.mod_eq_of_lt (by omega), if_pos (by omega)]
  have hz : (0#32).toInt = 0 := by decide
  have hm : (2047#32).toInt = 2047 := by decide
  refine ⟨?_, ?_, ?_, by rw [ht]; rfl⟩
  · show BitVec.ofBool (decide ((BitVec.ofNat 32 p).toInt < (0#32).toInt)) = 0#1
    rw [ht, hz, decide_eq_false (by omega)]; rfl
  · show BitVec.ofBool (decide ((0#32).toInt ≤ (BitVec.ofNat 32 p).toInt)) = 1#1
    rw [ht, hz, decide_eq_true (by omega)]; rfl
  · show BitVec.ofBool (decide ((BitVec.ofNat 32 p).toInt ≤ (2047#32).toInt)) = 1#1
    rw [ht, hm, decide_eq_true (by omega)]; rfl

/-- An array of one-element lists reads, at a place's list, the place. -/
theorem wrapped_apply (J : IVec S256x8 32) (r : Fin 256) (k : Fin 8) (u : Fin 1) {p : ℕ} (hp : p < 2048)
    (hJ : J (ix2 r k) = BitVec.ofNat 32 p) : wrapped J (ix3 r k u) = BitVec.ofNat 32 p := by
  unfold wrapped
  rw [shapeCast_apply _ _ (ix3 r k u) (ix2 r k) (by
    have hu : u.val = 0 := by omega
    rw [Shape.rowMajor_val_two, Shape.rowMajor_val_three]
    show r.val * 8 + k.val = (r.val * 8 + k.val) * 1 + u.val
    omega)]
  show Scalar.select (IntOp.cmpi .slt (J (ix2 r k)) 0#32) _ (J (ix2 r k)) = _
  rw [hJ, (word_checks p hp).1, select_zero]

/-- Where every position is in range the check is passed. -/
theorem inside_apply (I : IVec S256x8x1 32) (p : Fin 256 → Fin 8 → ℕ) (hp : ∀ r k, p r k < 2048)
    (hI : ∀ r k u, I (ix3 r k u) = BitVec.ofNat 32 (p r k)) (j : S256x8.Idx) : inside I j = 1#1 := by
  refine Host.reduce_andi_one _ _ _ _ j rfl fun i => ?_
  obtain ⟨r, k, u, rfl⟩ : ∃ (r : Fin 256) (k : Fin 8) (u : Fin 1), i = ix3 r k u := ⟨i 0, i 1, i 2, eq_ix3 i⟩
  show IntOp.andi (IntOp.cmpi .sge (I (ix3 r k u)) 0#32) (IntOp.cmpi .sle (I (ix3 r k u)) 2047#32) = 1#1
  rw [hI, (word_checks _ (hp r k)).2.1, (word_checks _ (hp r k)).2.2.1]
  rfl

/-- The gather takes from row `r` the element at the position given for the place. -/
theorem gather_apply (x : FVec F S256x2048 .f32) (I : IVec S256x8x1 32) (r : Fin 256) (k : Fin 8) {p : ℕ} (hp : p < 2048)
    (hI : I (ix3 r k 0) = BitVec.ofNat 32 p) :
    Host.gather gather_S256x2048_S256x8x1_S256x8_n_1_0_0_1_2_11 x I (ix2 r k) = x (ix2 r ⟨p, hp⟩) := by
  refine congrArg x (funext fun a => Fin.ext ?_)
  match a with
  | ⟨0, _⟩ =>
    show GatherDims.start gather_S256x2048_S256x8x1_S256x8_n_1_0_0_1_2_11 (ix2 r k) I 0
      + GatherDims.batchCoord gather_S256x2048_S256x8x1_S256x8_n_1_0_0_1_2_11 (ix2 r k) 0
      + GatherDims.offCoord gather_S256x2048_S256x8x1_S256x8_n_1_0_0_1_2_11 (ix2 r k) 0 = r.val
    rw [GatherDims.start_batching _ _ _ _ (List.mem_singleton.mpr rfl),
      GatherDims.offCoord_eq_zero _ _ _ fun h => ((GatherDims.mem_sKept _ _).mp h).2 (List.mem_singleton.mpr rfl), Nat.zero_add, Nat.add_zero]
    rfl
  | ⟨1, _⟩ =>
    show GatherDims.start gather_S256x2048_S256x8x1_S256x8_n_1_0_0_1_2_11 (ix2 r k) I 1
      + GatherDims.batchCoord gather_S256x2048_S256x8x1_S256x8_n_1_0_0_1_2_11 (ix2 r k) 1
      + GatherDims.offCoord gather_S256x2048_S256x8x1_S256x8_n_1_0_0_1_2_11 (ix2 r k) 1 = p
    rw [GatherDims.batchCoord_eq_zero _ _ _ fun h => absurd (List.mem_singleton.mp h) (by decide),
      GatherDims.offCoord_eq_zero _ _ _ fun h => ((GatherDims.mem_sKept _ _).mp h).1 (List.mem_singleton.mpr rfl)]
    simp only [Nat.add_zero]
    have hat : ∀ c, GatherDims.siIdx gather_S256x2048_S256x8x1_S256x8_n_1_0_0_1_2_11 (ix2 r k) c = ix3 r k 0 := fun c => by
      funext b
      refine Fin.ext ?_
      match b with
      | ⟨0, _⟩ => rfl
      | ⟨1, _⟩ => rfl
      | ⟨2, _⟩ => exact Nat.lt_one_iff.mp c.isLt
    unfold GatherDims.start
    rw [dif_pos (show (1 : Fin S256x2048.rank) ∈ gather_S256x2048_S256x8x1_S256x8_n_1_0_0_1_2_11.startIndexMap from List.mem_singleton.mpr rfl), hat, hI, (word_checks p hp).2.2.2]
    show min p (2048 - 1) = p
    omega

/-- THE REFERENCE: in row `r` and column `k` it holds the value of row `r` at position `k` of the row's order. -/
theorem answer_apply (x : FVec Ideal S256x2048 .f32) (r : Fin 256) (k : Fin 8) :
    answer x (ix2 r k) = x (ix2 r (Sorted.order (row (Host.negf x) r) ⟨k.val, by omega⟩)) := by
  obtain ⟨p, hp⟩ : ∃ p : Fin 256 → Fin 8 → Fin 2048, ∀ r k, Sorted.order (row (Host.negf x) r) ⟨k.val, by omega⟩ = p r k :=
    ⟨fun r k => Sorted.order (row (Host.negf x) r) ⟨k.val, by omega⟩, fun _ _ => rfl⟩
  have hJ : ∀ (r : Fin 256) (k : Fin 8), positions x (ix2 r k) = BitVec.ofNat 32 (p r k).val := fun r k =>
    (slice2_axis1_apply 0 _ slices_S256x2048_S256x8_0_0 r k ⟨k.val, by omega⟩ (Nat.zero_add _).symm).trans
      ((Sorted.reference_sort_apply (Host.negf x) r ⟨k.val, by omega⟩).trans (by rw [hp]))
  have hI : ∀ (r : Fin 256) (k : Fin 8) (u : Fin 1), wrapped (positions x) (ix3 r k u) = BitVec.ofNat 32 (p r k).val := fun r k u =>
    wrapped_apply _ r k u (p r k).isLt (hJ r k)
  have hin : inside (wrapped (positions x)) (ix2 r k) = 1#1 :=
    inside_apply _ (fun r k => (p r k).val) (fun r k => (p r k).isLt) hI _
  rw [hp]
  unfold answer
  rw [select_apply, hin, select_one]
  exact gather_apply x _ r k (p r k).isLt (hI r k 0)

end Cert.Reference
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_distinct_so_far
public import proofs.«01_k».proof.Proof.Run
public import proofs.«01_k».proof.Proof.Tables
public import proofs.«01_k».proof.Proof.Blocks
public import proofs.«01_k».proof.Proof.Reference
public import Idealize.ShloMosaic.Adequacy
public import Idealize.ShloMosaic.Init

@[expose] public section

noncomputable section

namespace Cert.Proof

open Idealize.ShloMosaic Idealize.ShloMosaic.ValueIdx Idealize.SL.Sem

/-- Whatever its argument, the kernel ends on every device with its argument as it was and every counter at zero, over any
    float values. -/
theorem frame_any {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r =>
      (∀ c : Dev KernelIdeal.nD, r.2.mem ((c.tc : Thread KernelIdeal.nD KernelIdeal.τ).loc KernelIdeal.main_arg0)
          = m ((c.tc : Thread KernelIdeal.nD KernelIdeal.τ).loc KernelIdeal.main_arg0))
        ∧ r.2.sem = fun _ => 0) :=
  (θ_run KernelIdeal.defs _ _).mono (fun _ h => ⟨fun c => (h.1 c).2, h.2⟩) (Swap.run_main m g)

/-- The two printings of the kernel have the same kernel bodies, -/
theorem bodies_eq : Kernel.defs₀ (F := Bits) = KernelIdeal.defs₀ (F := Bits) := by
  unfold Kernel.defs₀ KernelIdeal.defs₀
  congr 1
  funext l a
  match l, a with
  | 0, (_, _) => rfl

theorem defs_eq : Kernel.defs (F := Bits) = KernelIdeal.defs (F := Bits) :=
  congrArg (Pipeline.defs (KernelIdeal.pcfgs (F := Bits))) bodies_eq

/-- so the kernel ends so over the bits, -/
theorem frame_kernel : Cert.quiescent_Kernel := fun m g _ => by
  rw [defs_eq]
  exact frame_any (F := Bits) m g

/-- and over the reals. -/
theorem frame_kernel_ideal : Cert.quiescent_KernelIdeal := fun m g _ => frame_any (F := Ideal) m g

/-- The reference ends with its argument as it was; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What a device ends with, in row `r` and column `k`: of the values in row `r` of the whole argument, the `k`-th greatest,
    repetitions not counted. -/
theorem result_apply (m : (ℓ : Loc KernelIdeal.nD KernelIdeal.τ KernelIdeal.sig) → Buf (Elt Ideal) ℓ) (X : (Rounds.Rows 2048).Idx → EReal)
    (hm : ∀ c : Dev KernelIdeal.nD, m ((c.tc : Thread KernelIdeal.nD KernelIdeal.τ).loc KernelIdeal.main_arg0) = Swap.half X c)
    (c : Dev KernelIdeal.nD) (r : Fin 256) (k : Fin 8) :
    Swap.result (F := Ideal) m c (ix2 r k) = Distinct.nth (Set.range (Rounds.row X r)) k.val := by
  refine (Swap.mergeOf_apply _ _ r k).trans ?_
  rw [Swap.blockIn_eq, Swap.blockIn_eq, hm c, hm (Swap.mate c), Swap.half_union]

/-- Where the mask is set the kernel's result on every device is the reference's. -/
theorem value : Cert.algebraic_KernelIdeal_ReferenceIdeal_on_distinct_so_far := by
  intro m g m' g' _ hm
  refine ⟨Reference.answer (F := Ideal) (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun r h c => ⟨fun i hi => ?_, (h.1 c).2⟩) (Swap.run_main (F := Ideal) m g)
    obtain ⟨a, k, rfl⟩ : ∃ (a : Fin 256) (k : Fin 8), i = ix2 a k := ⟨i 0, i 1, eq_ix2 i⟩
    rw [(h.1 c).1]
    exact (result_apply m _ hm c a k).trans ((Sorted.mask_spec _ a k hi).trans (Reference.answer_apply _ a k).symm)
  · exact (θ_run Cert.ReferenceIdeal.defs _ _).mono (fun r h => ⟨fun i _ => congrFun (h 0).1 i, (h 0).2⟩)
      (Cert.ReferenceIdeal.Value.run (F := Ideal) m' g')

theorem claim : Cert.Claim := ⟨Cert.Kernel.Gen.facts, Cert.KernelIdeal.Gen.facts, Cert.ReferenceIdeal.Gen.facts, Cert.On_distinct_so_far.Gen.facts,
  frame_kernel, frame_kernel_ideal, frame_reference, trivial, value⟩

end Cert.Proof

end
